-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x1x4096 : Shape := ⟨3, ![2048, 1, 4096]⟩
abbrev S2048x32x2 : Shape := ⟨3, ![2048, 32, 2]⟩
abbrev S4096 : Shape := ⟨1, ![4096]⟩
abbrev S4608x4096 : Shape := ⟨2, ![4608, 4096]⟩
abbrev S4608 : Shape := ⟨1, ![4608]⟩
abbrev S4096x4096 : Shape := ⟨2, ![4096, 4096]⟩
abbrev S27392x4096 : Shape := ⟨2, ![27392, 4096]⟩
abbrev S4096x13696 : Shape := ⟨2, ![4096, 13696]⟩
abbrev S_ : Shape := ⟨0, ![]⟩
abbrev S4352x4096 : Shape := ⟨2, ![4352, 4096]⟩
abbrev S4352 : Shape := ⟨1, ![4352]⟩

class Facts : Prop where
  bcast_S_S2048x32x2 : S_.BroadcastsInDim S2048x32x2 (![] : Fin 0 → Fin S2048x32x2.rank)
  bcast_S_S4096 : S_.BroadcastsInDim S4096 (![] : Fin 0 → Fin S4096.rank)
  slices_S4608x4096_S4352x4096_0_0 : S4608x4096.Slices ![0, 0] S4352x4096
  bcast_S_S4352x4096 : S_.BroadcastsInDim S4352x4096 (![] : Fin 0 → Fin S4352x4096.rank)
  slices_S4608_S4352_0 : S4608.Slices ![0] S4352
  bcast_S_S4352 : S_.BroadcastsInDim S4352 (![] : Fin 0 → Fin S4352.rank)

variable [Facts]

def fn {F : FTy → Type} [FloatOps F] (main_arg0 : FVec F S2048x1x4096 .f32) (main_arg1 : FVec F S2048x32x2 .f32) (main_arg2 : FVec F S4096 .f32) (main_arg3 : FVec F S4608x4096 .f32) (main_arg4 : FVec F S4608 .f32) (main_arg5 : FVec F S4096x4096 .f32) (main_arg6 : FVec F S4096 .f32) (main_arg7 : FVec F S27392x4096 .f32) (main_arg8 : FVec F S4096x13696 .f32) : IVec S2048x32x2 1 × IVec S4096 1 × IVec S4352x4096 1 × IVec S4352 1 :=
  let main_v0 : FVec F S2048x32x2 .f32 := Host.absf main_arg1
  let main_cst : FVec F S_ .f32 := constant S_ .f32 0x7F800000#32
  let main_v1 : FVec F S2048x32x2 .f32 := broadcastInDim S2048x32x2 ![] bcast_S_S2048x32x2 main_cst
  let main_v2 : IVec S2048x32x2 1 := cmpf .olt main_v0 main_v1
  let main_v3 : FVec F S4096 .f32 := Host.absf main_arg2
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_v6 : FVec F S4352x4096 .f32 := (extractStridedSlice S4352x4096 ![0, 0] · slices_S4608x4096_S4352x4096_0_0) main_arg3
  let main_v7 : FVec F S4352x4096 .f32 := Host.absf main_v6
  let main_cst_1 : FVec F S_ .f32 := constant S_ .f32 0x7F800000#32
  let main_v8 : FVec F S4352x4096 .f32 := broadcastInDim S4352x4096 ![] bcast_S_S4352x4096 main_cst_1
  let main_v9 : IVec S4352x4096 1 := cmpf .olt main_v7 main_v8
  let main_v10 : FVec F S4352 .f32 := (extractStridedSlice S4352 ![0] · slices_S4608_S4352_0) main_arg4
  let main_v11 : FVec F S4352 .f32 := Host.absf main_v10
  let main_cst_2 : FVec F S_ .f32 := constant S_ .f32 0x7F800000#32
  let main_v12 : FVec F S4352 .f32 := broadcastInDim S4352 ![] bcast_S_S4352 main_cst_2
  let main_v13 : IVec S4352 1 := cmpf .olt main_v11 main_v12
  (main_v2, main_v5, main_v9, main_v13)
-- ==== Kernel.lean ====
abbrev S2048x1x4096 : Shape := ⟨3, ![2048, 1, 4096]⟩
abbrev S2048x32x2 : Shape := ⟨3, ![2048, 32, 2]⟩
abbrev S4096 : Shape := ⟨1, ![4096]⟩
abbrev S4608x4096 : Shape := ⟨2, ![4608, 4096]⟩
abbrev S4608 : Shape := ⟨1, ![4608]⟩
abbrev S4096x4096 : Shape := ⟨2, ![4096, 4096]⟩
abbrev S27392x4096 : Shape := ⟨2, ![27392, 4096]⟩
abbrev S4096x13696 : Shape := ⟨2, ![4096, 13696]⟩
abbrev S2048x4096 : Shape := ⟨2, ![2048, 4096]⟩
abbrev S2048x32x1 : Shape := ⟨3, ![2048, 32, 1]⟩
abbrev S2048x32 : Shape := ⟨2, ![2048, 32]⟩
abbrev S2048x64 : Shape := ⟨2, ![2048, 64]⟩
abbrev S_ : Shape := ⟨0, ![]⟩
abbrev S2048x128 : Shape := ⟨2, ![2048, 128]⟩
abbrev S1x2048x1x128 : Shape := ⟨4, ![1, 2048, 1, 128]⟩
abbrev S1x2048x34x128 : Shape := ⟨4, ![1, 2048, 34, 128]⟩
abbrev S2048x4352 : Shape := ⟨2, ![2048, 4352]⟩
abbrev S2048x256 : Shape := ⟨2, ![2048, 256]⟩
abbrev S2048x4608 : Shape := ⟨2, ![2048, 4608]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1x4608 : Shape := ⟨2, ![1, 4608]⟩
abbrev S512x4096 : Shape := ⟨2, ![512, 4096]⟩
abbrev S1x512 : Shape := ⟨2, ![1, 512]⟩
abbrev S256x512 : Shape := ⟨2, ![256, 512]⟩
abbrev S256x511 : Shape := ⟨2, ![256, 511]⟩
abbrev S256x128 : Shape := ⟨2, ![256, 128]⟩
abbrev S256x256 : Shape := ⟨2, ![256, 256]⟩
abbrev S2x13696x4096 : Shape := ⟨3, ![2, 13696, 4096]⟩
abbrev S2048x13824 : Shape := ⟨2, ![2048, 13824]⟩
abbrev S1x256x4096 : Shape := ⟨3, ![1, 256, 4096]⟩
abbrev S2048x1152 : Shape := ⟨2, ![2048, 1152]⟩
abbrev S1024x1152 : Shape := ⟨2, ![1024, 1152]⟩
abbrev S2048x1024 : Shape := ⟨2, ![2048, 1024]⟩

abbrev nBuf : Space → Nat
  | .hbm => 53
  | .vmem => 53
  | .smem => 0
  | _ => 0

abbrev bufTy : (tb : Table) → Fin (tcTables nBuf tb) → BufTy
  | .hbm, ⟨0, _⟩ => ⟨S2048x1x4096, .f32⟩
  | .hbm, ⟨1, _⟩ => ⟨S2048x32x2, .f32⟩
  | .hbm, ⟨2, _⟩ => ⟨S4096, .f32⟩
  | .hbm, ⟨3, _⟩ => ⟨S4608x4096, .f32⟩
  | .hbm, ⟨4, _⟩ => ⟨S4608, .f32⟩
  | .hbm, ⟨5, _⟩ => ⟨S4096x4096, .f32⟩
  | .hbm, ⟨6, _⟩ => ⟨S4096, .f32⟩
  | .hbm, ⟨7, _⟩ => ⟨S27392x4096, .f32⟩
  | .hbm, ⟨8, _⟩ => ⟨S4096x13696, .f32⟩
  | .hbm, ⟨9, _⟩ => ⟨S2048x4096, .f32⟩
  | .hbm, ⟨10, _⟩ => ⟨S2048x32x1, .f32⟩
  | .hbm, ⟨11, _⟩ => ⟨S2048x32, .f32⟩
  | .hbm, ⟨12, _⟩ => ⟨S2048x32x1, .f32⟩
  | .hbm, ⟨13, _⟩ => ⟨S2048x32, .f32⟩
  | .hbm, ⟨14, _⟩ => ⟨S2048x32x1, .f32⟩
  | .hbm, ⟨15, _⟩ => ⟨S2048x32x1, .f32⟩
  | .hbm, ⟨16, _⟩ => ⟨S2048x32x2, .f32⟩
  | .hbm, ⟨17, _⟩ => ⟨S2048x64, .f32⟩
  | .hbm, ⟨18, _⟩ => ⟨S2048x32, .f32⟩
  | .hbm, ⟨19, _⟩ => ⟨S2048x32x1, .f32⟩
  | .hbm, ⟨20, _⟩ => ⟨S2048x32x1, .f32⟩
  | .hbm, ⟨21, _⟩ => ⟨S2048x32x2, .f32⟩
  | .hbm, ⟨22, _⟩ => ⟨S2048x64, .f32⟩
  | .hbm, ⟨23, _⟩ => ⟨S_, .f32⟩
  | .hbm, ⟨24, _⟩ => ⟨S2048x64, .f32⟩
  | .hbm, ⟨25, _⟩ => ⟨S2048x128, .f32⟩
  | .hbm, ⟨26, _⟩ => ⟨S_, .f32⟩
  | .hbm, ⟨27, _⟩ => ⟨S2048x64, .f32⟩
  | .hbm, ⟨28, _⟩ => ⟨S2048x128, .f32⟩
  | .hbm, ⟨29, _⟩ => ⟨S1x2048x1x128, .f32⟩
  | .hbm, ⟨30, _⟩ => ⟨S1x2048x34x128, .f32⟩
  | .hbm, ⟨31, _⟩ => ⟨S2048x4352, .f32⟩
  | .hbm, ⟨32, _⟩ => ⟨S_, .f32⟩
  | .hbm, ⟨33, _⟩ => ⟨S2048x256, .f32⟩
  | .hbm, ⟨34, _⟩ => ⟨S2048x4608, .f32⟩
  | .hbm, ⟨35, _⟩ => ⟨S1x2048x1x128, .f32⟩
  | .hbm, ⟨36, _⟩ => ⟨S1x2048x34x128, .f32⟩
  | .hbm, ⟨37, _⟩ => ⟨S2048x4352, .f32⟩
  | .hbm, ⟨38, _⟩ => ⟨S_, .f32⟩
  | .hbm, ⟨39, _⟩ => ⟨S2048x256, .f32⟩
  | .hbm, ⟨40, _⟩ => ⟨S2048x4608, .f32⟩
  | .hbm, ⟨41, _⟩ => ⟨S1x4096, .f32⟩
  | .hbm, ⟨42, _⟩ => ⟨S2048x4096, .bf16⟩
  | .hbm, ⟨43, _⟩ => ⟨S1x4608, .f32⟩
  | .hbm, ⟨44, _⟩ => ⟨S2048x4608, .bf16⟩
  | .hbm, ⟨45, _⟩ => ⟨S2048x4096, .bf16⟩
  | .hbm, ⟨46, _⟩ => ⟨S2048x4096, .bf16⟩
  | .hbm, ⟨47, _⟩ => ⟨S1x4096, .f32⟩
  | .hbm, ⟨48, _⟩ => ⟨S2048x4096, .bf16⟩
  | .hbm, ⟨49, _⟩ => ⟨S2x13696x4096, .f32⟩
  | .hbm, ⟨50, _⟩ => ⟨S2048x13824, .bf16⟩
  | .hbm, ⟨51, _⟩ => ⟨S2048x4096, .f32⟩
  | .hbm, ⟨52, _⟩ => ⟨S2048x1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S512x4096, .f32⟩
  | .local _ .vmem, ⟨8, _⟩ => ⟨S512x4096, .f32⟩
  | .local _ .vmem, ⟨9, _⟩ => ⟨S1x512, .f32⟩
  | .local _ .vmem, ⟨10, _⟩ => ⟨S1x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x128, .bf16⟩
  | .local _ .vmem, ⟨18, _⟩ => ⟨S256x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S256x128, .bf16⟩
  | .local _ .vmem, ⟨24, _⟩ => ⟨S256x128, .bf16⟩
  | .local _ .vmem, ⟨25, _⟩ => ⟨S256x4096, .bf16⟩
  | .local _ .vmem, ⟨26, _⟩ => ⟨S256x4096, .bf16⟩
  | .local _ .vmem, ⟨27, _⟩ => ⟨S512x4096, .f32⟩
  | .local _ .vmem, ⟨28, _⟩ => ⟨S512x4096, .f32⟩
  | .local _ .vmem, ⟨29, _⟩ => ⟨S256x512, .f32⟩
  | .local _ .vmem, ⟨30, _⟩ => ⟨S256x512, .f32⟩
  | .local _ .vmem, ⟨31, _⟩ => ⟨S256x512, .bf16⟩
  | .local _ .vmem, ⟨32, _⟩ => ⟨S256x512, .bf16⟩
  | .local _ .vmem, ⟨33, _⟩ => ⟨S256x4096, .bf16⟩
  | .local _ .vmem, ⟨34, _⟩ => ⟨S256x4096, .bf16⟩
  | .local _ .vmem, ⟨35, _⟩ => ⟨S1x4096, .f32⟩
  | .local _ .vmem, ⟨36, _⟩ => ⟨S256x4096, .bf16⟩
  | .local _ .vmem, ⟨37, _⟩ => ⟨S256x4096, .bf16⟩
  | .local _ .vmem, ⟨38, _⟩ => ⟨S2048x4096, .bf16⟩
  | .local _ .vmem, ⟨39, _⟩ => ⟨S1x256x4096, .f32⟩
  | .local _ .vmem, ⟨40, _⟩ => ⟨S1x256x4096, .f32⟩
  | .local _ .vmem, ⟨41, _⟩ => ⟨S1x256x4096, .f32⟩
  | .local _ .vmem, ⟨42, _⟩ => ⟨S1x256x4096, .f32⟩
  | .local _ .vmem, ⟨43, _⟩ => ⟨S2048x256, .bf16⟩
  | .local _ .vmem, ⟨44, _⟩ => ⟨S2048x256, .bf16⟩
  | .local _ .vmem, ⟨45, _⟩ => ⟨S2048x1152, .bf16⟩
  | .local _ .vmem, ⟨46, _⟩ => ⟨S2048x1152, .bf16⟩
  | .local _ .vmem, ⟨47, _⟩ => ⟨S1024x1152, .f32⟩
  | .local _ .vmem, ⟨48, _⟩ => ⟨S1024x1152, .f32⟩
  | .local _ .vmem, ⟨49, _⟩ => ⟨S2048x1024, .bf16⟩
  | .local _ .vmem, ⟨50, _⟩ => ⟨S2048x1024, .bf16⟩
  | .local _ .vmem, ⟨51, _⟩ => ⟨S2048x1024, .f32⟩
  | .local _ .vmem, ⟨52, _⟩ => ⟨S2048x1024, .f32⟩
  | _, _ => ⟨S2048x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg3_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc5_sem0_0 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem3_1 : DmaSem sig := 52

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![9, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![32, 8], ![false, false]⟩

@[reducible] def k2_t1_loop (i : grid2.Coords) : Scf.Loop 32 :=
  let c0_i32 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32
  let c1_i32_3 : BitVec 32 := 1#32
  let v8 : BitVec 32 := Scalar.divsi v6 c1_i32_3
  let v9 : BitVec 32 := Scalar.muli v8 c1_i32_3
  let v10 : BitVec 32 := Scalar.addi c0_i32 v9
  let c1_i32_4 : BitVec 32 := 1#32
  ⟨c0_i32, v10, c1_i32_4⟩
def k2_mult1 (i : grid2.Coords) (k2_t1 : Fin (k2_t1_loop i).trips) : BitVec 32 :=
  let c0_i32 : BitVec 32 := 0#32
  let c1_i32_4 : BitVec 32 := 1#32
  let arg6 : BitVec 32 := Scf.iv c0_i32 c1_i32_4 k2_t1
  let c256_i32 : BitVec 32 := 256#32
  let v17 : BitVec 32 := Scalar.muli arg6 c256_i32
  v17
def k2_off1 (i : grid2.Coords) (k2_t1 : Fin (k2_t1_loop i).trips) : Fin 2 → Nat :=
  let c0_i32 : BitVec 32 := 0#32
  let c1_i32_4 : BitVec 32 := 1#32
  let arg6 : BitVec 32 := Scf.iv c0_i32 c1_i32_4 k2_t1
  let c256_i32 : BitVec 32 := 256#32
  let v17 : BitVec 32 := Scalar.muli arg6 c256_i32
  let v18 : BitVec 32 := v17
  let v19 : Index := Scalar.indexCast v18
  let c0_8 : Index := 0#32
  ![v19.toNat, 0]
@[reducible] def k2_t2_loop (i : grid2.Coords) : Scf.Loop 32 :=
  let c0_i32 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32
  let c1_i32_3 : BitVec 32 := 1#32
  let v8 : BitVec 32 := Scalar.divsi v6 c1_i32_3
  let v9 : BitVec 32 := Scalar.muli v8 c1_i32_3
  let v10 : BitVec 32 := Scalar.addi c0_i32 v9
  let v7 : BitVec 32 := Scalar.addi c0_i32 v6
  let c1_i32_5 : BitVec 32 := 1#32
  ⟨v10, v7, c1_i32_5⟩
def k2_mult2 (i : grid2.Coords) (k2_t2 : Fin (k2_t2_loop i).trips) : BitVec 32 :=
  let c0_i32 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32
  let c1_i32_3 : BitVec 32 := 1#32
  let v8 : BitVec 32 := Scalar.divsi v6 c1_i32_3
  let v9 : BitVec 32 := Scalar.muli v8 c1_i32_3
  let v10 : BitVec 32 := Scalar.addi c0_i32 v9
  let c1_i32_5 : BitVec 32 := 1#32
  let arg6 : BitVec 32 := Scf.iv v10 c1_i32_5 k2_t2
  let c256_i32 : BitVec 32 := 256#32
  let v17 : BitVec 32 := Scalar.muli arg6 c256_i32
  v17
def k2_off2 (i : grid2.Coords) (k2_t2 : Fin (k2_t2_loop i).trips) : Fin 2 → Nat :=
  let c0_i32 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32
  let c1_i32_3 : BitVec 32 := 1#32
  let v8 : BitVec 32 := Scalar.divsi v6 c1_i32_3
  let v9 : BitVec 32 := Scalar.muli v8 c1_i32_3
  let v10 : BitVec 32 := Scalar.addi c0_i32 v9
  let c1_i32_5 : BitVec 32 := 1#32
  let arg6 : BitVec 32 := Scf.iv v10 c1_i32_5 k2_t2
  let c256_i32 : BitVec 32 := 256#32
  let v17 : BitVec 32 := Scalar.muli arg6 c256_i32
  let v18 : BitVec 32 := v17
  let v19 : Index := Scalar.indexCast v18
  let c0_8 : Index := 0#32
  ![v19.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.addi c32_i32 v16
  let c0_i32_4 : BitVec 32 := 0#32
  let c0_i32_5 : BitVec 32 := 0#32
  ![c0_i32_4.toNat, v17.toNat]

def cc2_transform_2 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c34_i32 : BitVec 32 := 34#32
  let v17 : BitVec 32 := Scalar.addi c34_i32 v16
  let c0_i32_4 : BitVec 32 := 0#32
  let c0_i32_5 : BitVec 32 := 0#32
  ![c0_i32_4.toNat, v17.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![54], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 3 → Nat :=
  let arg0 : BitVec 32 := BitVec.ofNat 32 (i 0).val
  let c53_i32 : BitVec 32 := 53#32
  let v0 : BitVec 32 := Scalar.minsi arg0 c53_i32
  let c0_i32 : BitVec 32 := 0#32
  let c0_i32_0 : BitVec 32 := 0#32
  let c0_i32_1 : BitVec 32 := 0#32
  ![c0_i32.toNat, v0.toNat, c0_i32_0.toNat]

def cc5_transform_2 (i : grid5.Coords) : Fin 3 → Nat :=
  let arg0 : BitVec 32 := BitVec.ofNat 32 (i 0).val
  let c53_i32 : BitVec 32 := 53#32
  let v0 : BitVec 32 := Scalar.minsi arg0 c53_i32
  let c1_i32 : BitVec 32 := 1#32
  let c0_i32 : BitVec 32 := 0#32
  let c0_i32_0 : BitVec 32 := 0#32
  ![c1_i32.toNat, v0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S2048x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S1x256x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x256x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![4, 12], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S2048x1152 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024x1152 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S2048x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S2048x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]
-- ==== KernelIdeal.lean ====
variable {F : FTy → Type} [FloatOps F] [Named F]
def κ : String → Option EReal := fun
  | "mask" => some ⊥
  | _ => none
-- ==== ReferenceIdeal.lean ====
abbrev S2048x1x4096 : Shape := ⟨3, ![2048, 1, 4096]⟩
abbrev S2048x32x2 : Shape := ⟨3, ![2048, 32, 2]⟩
abbrev S4096 : Shape := ⟨1, ![4096]⟩
abbrev S4608x4096 : Shape := ⟨2, ![4608, 4096]⟩
abbrev S4608 : Shape := ⟨1, ![4608]⟩
abbrev S4096x4096 : Shape := ⟨2, ![4096, 4096]⟩
abbrev S27392x4096 : Shape := ⟨2, ![27392, 4096]⟩
abbrev S4096x13696 : Shape := ⟨2, ![4096, 13696]⟩
abbrev S_ : Shape := ⟨0, ![]⟩
abbrev S2048x1 : Shape := ⟨2, ![2048, 1]⟩
abbrev S2048x1x1 : Shape := ⟨3, ![2048, 1, 1]⟩
abbrev S1x1x4096 : Shape := ⟨3, ![1, 1, 4096]⟩
abbrev S4096x4608 : Shape := ⟨2, ![4096, 4608]⟩
abbrev S2048x1x4608 : Shape := ⟨3, ![2048, 1, 4608]⟩
abbrev S1x1x4608 : Shape := ⟨3, ![1, 1, 4608]⟩
abbrev S2048x1x32x128 : Shape := ⟨4, ![2048, 1, 32, 128]⟩
abbrev S2048x1x256 : Shape := ⟨3, ![2048, 1, 256]⟩
abbrev S2048x1x2x128 : Shape := ⟨4, ![2048, 1, 2, 128]⟩
abbrev S2048x1x32x64 : Shape := ⟨4, ![2048, 1, 32, 64]⟩
abbrev S2048x1x32x32x2 : Shape := ⟨5, ![2048, 1, 32, 32, 2]⟩
abbrev S2048x1x1x32x2 : Shape := ⟨5, ![2048, 1, 1, 32, 2]⟩
abbrev S2048x1x32x32x1 : Shape := ⟨5, ![2048, 1, 32, 32, 1]⟩
abbrev S2048x1x32x32 : Shape := ⟨4, ![2048, 1, 32, 32]⟩
abbrev S2048x1x1x32x1 : Shape := ⟨5, ![2048, 1, 1, 32, 1]⟩
abbrev S2048x1x1x32 : Shape := ⟨4, ![2048, 1, 1, 32]⟩
abbrev S2048x1x2x64 : Shape := ⟨4, ![2048, 1, 2, 64]⟩
abbrev S2048x1x2x32x2 : Shape := ⟨5, ![2048, 1, 2, 32, 2]⟩
abbrev S2048x1x2x32x1 : Shape := ⟨5, ![2048, 1, 2, 32, 1]⟩
abbrev S2048x1x2x32 : Shape := ⟨4, ![2048, 1, 2, 32]⟩
abbrev S2048x1x2x1x128 : Shape := ⟨5, ![2048, 1, 2, 1, 128]⟩
abbrev S2048x1x2x16x128 : Shape := ⟨5, ![2048, 1, 2, 16, 128]⟩
abbrev S1x32x2048x128 : Shape := ⟨4, ![1, 32, 2048, 128]⟩
abbrev S1x32x2048x2048 : Shape := ⟨4, ![1, 32, 2048, 2048]⟩
abbrev S2048x2048 : Shape := ⟨2, ![2048, 2048]⟩
abbrev S1x32x2048 : Shape := ⟨3, ![1, 32, 2048]⟩
abbrev S1x32x2048x1 : Shape := ⟨4, ![1, 32, 2048, 1]⟩
abbrev S4096x27392 : Shape := ⟨2, ![4096, 27392]⟩
abbrev S2048x1x27392 : Shape := ⟨3, ![2048, 1, 27392]⟩
abbrev S2048x1x13696 : Shape := ⟨3, ![2048, 1, 13696]⟩
abbrev S13696x4096 : Shape := ⟨2, ![13696, 4096]⟩

abbrev nBuf : Space → Nat
  | .hbm => 188
  | .vmem => 0
  | .smem => 0
  | _ => 0

abbrev hbmTy0_0 (i : Nat) : BufTy := match i % 128 with
  | 0 => ⟨S2048x1x4096, .f32⟩
  | 1 => ⟨S2048x32x2, .f32⟩
  | 2 => ⟨S4096, .f32⟩
  | 3 => ⟨S4608x4096, .f32⟩
  | 4 => ⟨S4608, .f32⟩
  | 5 => ⟨S4096x4096, .f32⟩
  | 6 => ⟨S4096, .f32⟩
  | 7 => ⟨S27392x4096, .f32⟩
  | 8 => ⟨S4096x13696, .f32⟩
  | 9 => ⟨S2048x1x4096, .f32⟩
  | 10 => ⟨S_, .f32⟩
  | 11 => ⟨S2048x1, .f32⟩
  | 12 => ⟨S2048x1x1, .f32⟩
  | 13 => ⟨S_, .f32⟩
  | 14 => ⟨S2048x1x1, .f32⟩
  | 15 => ⟨S2048x1x1, .f32⟩
  | 16 => ⟨S_, .f32⟩
  | 17 => ⟨S2048x1x1, .f32⟩
  | 18 => ⟨S2048x1x1, .f32⟩
  | 19 => ⟨S2048x1x1, .f32⟩
  | 20 => ⟨S2048x1x4096, .f32⟩
  | 21 => ⟨S2048x1x4096, .f32⟩
  | 22 => ⟨S1x1x4096, .f32⟩
  | 23 => ⟨S2048x1x4096, .f32⟩
  | 24 => ⟨S2048x1x4096, .f32⟩
  | 25 => ⟨S4096x4608, .f32⟩
  | 26 => ⟨S2048x1x4608, .f32⟩
  | 27 => ⟨S1x1x4608, .f32⟩
  | 28 => ⟨S2048x1x4608, .f32⟩
  | 29 => ⟨S2048x1x4608, .f32⟩
  | 30 => ⟨S2048x1x4096, .f32⟩
  | 31 => ⟨S2048x1x32x128, .f32⟩
  | 32 => ⟨S2048x1x256, .f32⟩
  | 33 => ⟨S2048x1x2x128, .f32⟩
  | 34 => ⟨S2048x1x256, .f32⟩
  | 35 => ⟨S2048x1x2x128, .f32⟩
  | 36 => ⟨S2048x1x32x64, .f32⟩
  | 37 => ⟨S2048x1x32x64, .f32⟩
  | 38 => ⟨S2048x1x32x32x2, .f32⟩
  | 39 => ⟨S2048x1x1x32x2, .f32⟩
  | 40 => ⟨S2048x1x32x32x1, .f32⟩
  | 41 => ⟨S2048x1x32x32, .f32⟩
  | 42 => ⟨S2048x1x1x32x1, .f32⟩
  | 43 => ⟨S2048x1x1x32, .f32⟩
  | 44 => ⟨S2048x1x32x32, .f32⟩
  | 45 => ⟨S2048x1x32x32, .f32⟩
  | 46 => ⟨S2048x1x32x32x1, .f32⟩
  | 47 => ⟨S2048x1x32x32, .f32⟩
  | 48 => ⟨S2048x1x1x32x1, .f32⟩
  | 49 => ⟨S2048x1x1x32, .f32⟩
  | 50 => ⟨S2048x1x32x32, .f32⟩
  | 51 => ⟨S2048x1x32x32, .f32⟩
  | 52 => ⟨S2048x1x32x32, .f32⟩
  | 53 => ⟨S2048x1x32x32x1, .f32⟩
  | 54 => ⟨S2048x1x32x32, .f32⟩
  | 55 => ⟨S2048x1x1x32x1, .f32⟩
  | 56 => ⟨S2048x1x1x32, .f32⟩
  | 57 => ⟨S2048x1x32x32, .f32⟩
  | 58 => ⟨S2048x1x32x32, .f32⟩
  | 59 => ⟨S2048x1x32x32x1, .f32⟩
  | 60 => ⟨S2048x1x32x32, .f32⟩
  | 61 => ⟨S2048x1x1x32x1, .f32⟩
  | 62 => ⟨S2048x1x1x32, .f32⟩
  | 63 => ⟨S2048x1x32x32, .f32⟩
  | 64 => ⟨S2048x1x32x32, .f32⟩
  | 65 => ⟨S2048x1x32x32, .f32⟩
  | 66 => ⟨S2048x1x32x32x1, .f32⟩
  | 67 => ⟨S2048x1x32x32x1, .f32⟩
  | 68 => ⟨S2048x1x32x32x2, .f32⟩
  | 69 => ⟨S2048x1x32x64, .f32⟩
  | 70 => ⟨S2048x1x32x128, .f32⟩
  | 71 => ⟨S2048x1x2x64, .f32⟩
  | 72 => ⟨S2048x1x2x64, .f32⟩
  | 73 => ⟨S2048x1x2x32x2, .f32⟩
  | 74 => ⟨S2048x1x1x32x2, .f32⟩
  | 75 => ⟨S2048x1x2x32x1, .f32⟩
  | 76 => ⟨S2048x1x2x32, .f32⟩
  | 77 => ⟨S2048x1x1x32x1, .f32⟩
  | 78 => ⟨S2048x1x1x32, .f32⟩
  | 79 => ⟨S2048x1x2x32, .f32⟩
  | 80 => ⟨S2048x1x2x32, .f32⟩
  | 81 => ⟨S2048x1x2x32x1, .f32⟩
  | 82 => ⟨S2048x1x2x32, .f32⟩
  | 83 => ⟨S2048x1x1x32x1, .f32⟩
  | 84 => ⟨S2048x1x1x32, .f32⟩
  | 85 => ⟨S2048x1x2x32, .f32⟩
  | 86 => ⟨S2048x1x2x32, .f32⟩
  | 87 => ⟨S2048x1x2x32, .f32⟩
  | 88 => ⟨S2048x1x2x32x1, .f32⟩
  | 89 => ⟨S2048x1x2x32, .f32⟩
  | 90 => ⟨S2048x1x1x32x1, .f32⟩
  | 91 => ⟨S2048x1x1x32, .f32⟩
  | 92 => ⟨S2048x1x2x32, .f32⟩
  | 93 => ⟨S2048x1x2x32, .f32⟩
  | 94 => ⟨S2048x1x2x32x1, .f32⟩
  | 95 => ⟨S2048x1x2x32, .f32⟩
  | 96 => ⟨S2048x1x1x32x1, .f32⟩
  | 97 => ⟨S2048x1x1x32, .f32⟩
  | 98 => ⟨S2048x1x2x32, .f32⟩
  | 99 => ⟨S2048x1x2x32, .f32⟩
  | 100 => ⟨S2048x1x2x32, .f32⟩
  | 101 => ⟨S2048x1x2x32x1, .f32⟩
  | 102 => ⟨S2048x1x2x32x1, .f32⟩
  | 103 => ⟨S2048x1x2x32x2, .f32⟩
  | 104 => ⟨S2048x1x2x64, .f32⟩
  | 105 => ⟨S2048x1x2x128, .f32⟩
  | 106 => ⟨S2048x1x2x1x128, .f32⟩
  | 107 => ⟨S2048x1x2x16x128, .f32⟩
  | 108 => ⟨S2048x1x32x128, .f32⟩
  | 109 => ⟨S2048x1x2x1x128, .f32⟩
  | 110 => ⟨S2048x1x2x16x128, .f32⟩
  | 111 => ⟨S2048x1x32x128, .f32⟩
  | 112 => ⟨S1x32x2048x128, .f32⟩
  | 113 => ⟨S1x32x2048x128, .f32⟩
  | 114 => ⟨S1x32x2048x128, .f32⟩
  | 115 => ⟨S1x32x2048x2048, .f32⟩
  | 116 => ⟨S_, .f32⟩
  | 117 => ⟨S1x32x2048x2048, .f32⟩
  | 118 => ⟨S1x32x2048x2048, .f32⟩
  | 119 => ⟨S_, .i1⟩
  | 120 => ⟨S2048x2048, .i1⟩
  | 121 => ⟨S2048x2048, .i32⟩
  | 122 => ⟨S_, .i32⟩
  | 123 => ⟨S2048x2048, .i32⟩
  | 124 => ⟨S2048x2048, .i32⟩
  | 125 => ⟨S2048x2048, .i32⟩
  | 126 => ⟨S2048x2048, .i1⟩
  | 127 => ⟨S_, .i1⟩
  | _ => ⟨S2048x1x4096, .f32⟩

abbrev hbmTy0_1 (i : Nat) : BufTy := match i % 128 with
  | 0 => ⟨S2048x2048, .i1⟩
  | 1 => ⟨S2048x2048, .i1⟩
  | 2 => ⟨S_, .f32⟩
  | 3 => ⟨S_, .f32⟩
  | 4 => ⟨S1x32x2048x2048, .i1⟩
  | 5 => ⟨S1x32x2048x2048, .f32⟩
  | 6 => ⟨S1x32x2048x2048, .f32⟩
  | 7 => ⟨S_, .f32⟩
  | 8 => ⟨S1x32x2048, .f32⟩
  | 9 => ⟨S_, .f32⟩
  | 10 => ⟨S1x32x2048, .f32⟩
  | 11 => ⟨S1x32x2048, .f32⟩
  | 12 => ⟨S1x32x2048x1, .f32⟩
  | 13 => ⟨S1x32x2048x2048, .f32⟩
  | 14 => ⟨S1x32x2048x2048, .f32⟩
  | 15 => ⟨S1x32x2048x2048, .f32⟩
  | 16 => ⟨S_, .f32⟩
  | 17 => ⟨S1x32x2048, .f32⟩
  | 18 => ⟨S1x32x2048x1, .f32⟩
  | 19 => ⟨S1x32x2048x2048, .f32⟩
  | 20 => ⟨S1x32x2048x2048, .f32⟩
  | 21 => ⟨S1x32x2048x128, .f32⟩
  | 22 => ⟨S2048x1x32x128, .f32⟩
  | 23 => ⟨S2048x1x4096, .f32⟩
  | 24 => ⟨S4096x4096, .f32⟩
  | 25 => ⟨S2048x1x4096, .f32⟩
  | 26 => ⟨S2048x1x4096, .f32⟩
  | 27 => ⟨S2048x1x4096, .f32⟩
  | 28 => ⟨S_, .f32⟩
  | 29 => ⟨S2048x1, .f32⟩
  | 30 => ⟨S2048x1x1, .f32⟩
  | 31 => ⟨S_, .f32⟩
  | 32 => ⟨S2048x1x1, .f32⟩
  | 33 => ⟨S2048x1x1, .f32⟩
  | 34 => ⟨S_, .f32⟩
  | 35 => ⟨S2048x1x1, .f32⟩
  | 36 => ⟨S2048x1x1, .f32⟩
  | 37 => ⟨S2048x1x1, .f32⟩
  | 38 => ⟨S2048x1x4096, .f32⟩
  | 39 => ⟨S2048x1x4096, .f32⟩
  | 40 => ⟨S1x1x4096, .f32⟩
  | 41 => ⟨S2048x1x4096, .f32⟩
  | 42 => ⟨S2048x1x4096, .f32⟩
  | 43 => ⟨S4096x27392, .f32⟩
  | 44 => ⟨S2048x1x27392, .f32⟩
  | 45 => ⟨S2048x1x13696, .f32⟩
  | 46 => ⟨S2048x1x13696, .f32⟩
  | 47 => ⟨S2048x1x13696, .f32⟩
  | 48 => ⟨S2048x1x13696, .f32⟩
  | 49 => ⟨S_, .f32⟩
  | 50 => ⟨S2048x1x13696, .f32⟩
  | 51 => ⟨S2048x1x13696, .f32⟩
  | 52 => ⟨S_, .f32⟩
  | 53 => ⟨S2048x1x13696, .f32⟩
  | 54 => ⟨S2048x1x13696, .f32⟩
  | 55 => ⟨S2048x1x13696, .f32⟩
  | 56 => ⟨S2048x1x13696, .f32⟩
  | 57 => ⟨S13696x4096, .f32⟩
  | 58 => ⟨S2048x1x4096, .f32⟩
  | 59 => ⟨S2048x1x4096, .f32⟩
  | _ => ⟨S2048x1x4096, .f32⟩

abbrev hbmTy (i : Nat) : BufTy := match i / 128 with
  | 0 => hbmTy0_0 i
  | 1 => hbmTy0_1 i
  | _ => ⟨S2048x1x4096, .f32⟩

abbrev bufTy : (tb : Table) → Fin (tcTables nBuf tb) → BufTy
  | .hbm, ⟨i, _⟩ => hbmTy i
  | _, _ => ⟨S2048x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_cst_2 : Ref sig .tc := ⟨.hbm, 116, rfl⟩
abbrev main_v104 : Ref sig .tc := ⟨.hbm, 117, rfl⟩
abbrev main_v105 : Ref sig .tc := ⟨.hbm, 118, rfl⟩
abbrev main_c : Ref sig .tc := ⟨.hbm, 119, rfl⟩
abbrev main_v106 : Ref sig .tc := ⟨.hbm, 120, rfl⟩
abbrev main_call0_v0 : Ref sig .tc := ⟨.hbm, 121, rfl⟩
abbrev main_call0_c : Ref sig .tc := ⟨.hbm, 122, rfl⟩
abbrev main_call0_v1 : Ref sig .tc := ⟨.hbm, 123, rfl⟩
abbrev main_call0_v2 : Ref sig .tc := ⟨.hbm, 124, rfl⟩
abbrev main_call0_v3 : Ref sig .tc := ⟨.hbm, 125, rfl⟩
abbrev main_call0_v4 : Ref sig .tc := ⟨.hbm, 126, rfl⟩
abbrev main_call0_c_0 : Ref sig .tc := ⟨.hbm, 127, rfl⟩
abbrev main_call0_v5 : Ref sig .tc := ⟨.hbm, 128, rfl⟩
abbrev main_v107 : Ref sig .tc := ⟨.hbm, 129, rfl⟩
abbrev main_cst_3 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_v108 : Ref sig .tc := ⟨.hbm, 134, rfl⟩
abbrev main_cst_4 : Ref sig .tc := ⟨.hbm, 135, rfl⟩
abbrev main_v109 : Ref sig .tc := ⟨.hbm, 136, rfl⟩
abbrev main_cst_5 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_6 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_7 : Ref sig .tc := ⟨.hbm, 156, rfl⟩
abbrev main_v127 : Ref sig .tc := ⟨.hbm, 157, rfl⟩
abbrev main_v128 : Ref sig .tc := ⟨.hbm, 158, rfl⟩
abbrev main_cst_8 : Ref sig .tc := ⟨.hbm, 159, rfl⟩
abbrev main_v129 : Ref sig .tc := ⟨.hbm, 160, rfl⟩
abbrev main_v130 : Ref sig .tc := ⟨.hbm, 161, rfl⟩
abbrev main_cst_9 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_call2_v0 : Ref sig .tc := ⟨.hbm, 175, rfl⟩
abbrev main_call2_v1 : Ref sig .tc := ⟨.hbm, 176, rfl⟩
abbrev main_call2_cst : Ref sig .tc := ⟨.hbm, 177, rfl⟩
abbrev main_call2_v2 : Ref sig .tc := ⟨.hbm, 178, rfl⟩
abbrev main_call2_v3 : Ref sig .tc := ⟨.hbm, 179, rfl⟩
abbrev main_call2_cst_0 : Ref sig .tc := ⟨.hbm, 180, rfl⟩
abbrev main_call2_v4 : Ref sig .tc := ⟨.hbm, 181, rfl⟩
abbrev main_call2_v5 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩

abbrev nD : Nat := 1
abbrev τ : Topo := Topo.v7x

variable {F : FTy → Type} [FloatOps F]
-- ==== Proof.Region.lean ====
/- One kernel region, and one stretch of host operations, as a step of the program's state.

   Between two steps a core holds all its unscoped buffers at SOME valuation of which a pure fact is known (`St`). A host stretch sends that valuation to what
   its operations make of it (`hostSeg`). A region of one output window sends it to the valuation updated at the output's array, at contents that satisfy the
   region's own relation (`regSeg`): what a block may hold beyond the array's edge is not fixed, so the result is related to the operands, not a function of them. -/
module

public import Idealize.ShloMosaic.Lib.Pipeline.RegionsForgetLinks
public import Idealize.ShloMosaic.Lib.Pipeline.RegionArraysF
public import Idealize.ShloMosaic.Lib.Pipeline.Kit
public import Idealize.ShloMosaic.Lib.Pipeline.FrameBody
public import Idealize.ShloMosaic.Lib.HostLoop.Plain
public import Idealize.ShloMosaic.Lib.HostLoop.Lifted

@[expose] public section

noncomputable section

namespace Cert.Region

open Idealize.ShloMosaic Idealize.ShloMosaic.TcCoe
open Idealize.SL Idealize.SL.RA
open Idealize.SL.BI (sProp bigSep bigSep_congr bigSep_mono)
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels}

local notation "𝕄" => MT nD τ sig Ix Val Name U Lvl

/-! ### The relational record of a region's data -/

/-- The data of a region run over buffers held at `W`: each window's array at `W`, the windows on one array sharing it, `after` what the body may leave in a
    window's buffer; between two points the region's own scoped buffers and the generator's register. -/
def mkRD (cfg : Cfg sig Λ₀) (c : Dev nD) (W : Valuation τ sig Val)
    (after : (w : Fin cfg.W) → Fin cfg.N → (Y X : (cfg.win w).block.Idx → Val (cfg.win w).elt) → Prop) : RDat τ Val Ix Name U Lvl cfg c where
  A w := W (Proc.devRef .tc (arrRef cfg.spec w))
  after := after
  Φ _ := iprop(scopedRest cfg.spec c ∗ ∃ r, prngReg c r)
  q := shareOf cfg.spec
  owed _ := (0 : CellTallies nD τ sig Ix)

/-- What window `w`'s buffer holds once the fetch at point `t` has landed, if it held `d`: the array's block on the part inside the array, `d` elsewhere. -/
def fet (cfg : Cfg sig Λ₀) (W : Valuation τ sig Val) (w : Fin cfg.W) (t : Fin cfg.N) (d : (cfg.win w).block.Idx → Val (cfg.win w).elt) :
    (cfg.win w).block.Idx → Val (cfg.win w).elt :=
  (cfg.win w).fill (cfg.grid.coords t) d (((cfg.win w).blk t).view.read Val (W (Proc.devRef .tc (arrRef cfg.spec w))))

theorem fetched_eq (cfg : Cfg sig Λ₀) (c : Dev nD) (W : Valuation τ sig Val)
    (after : (w : Fin cfg.W) → Fin cfg.N → (Y X : (cfg.win w).block.Idx → Val (cfg.win w).elt) → Prop) (w : Fin cfg.W) (t : Fin cfg.N)
    (d : (cfg.win w).block.Idx → Val (cfg.win w).elt) :
    (mkRD (Ix := Ix) (Name := Name) (U := U) (Lvl := Lvl) cfg c W after).fetched w t d = fet cfg W w t d := rfl

/-- What an input window's buffer may hold at a point: the array's block there, and beyond the array's edge anything. -/
theorem finds_fet [∀ e, Nonempty (Val e)] (cfg : Cfg sig Λ₀) (c : Dev nD) (W : Valuation τ sig Val)
    (after : (w : Fin cfg.W) → Fin cfg.N → (Y X : (cfg.win w).block.Idx → Val (cfg.win w).elt) → Prop) (w : Fin cfg.W) (hw : (cfg.win w).isOut = false)
    (hclip : (∀ t, (cfg.win w).fetch t = true) ∨ (∀ t t' : Fin cfg.N, (cfg.win w).index t = (cfg.win w).index t' →
      (cfg.win w).clip (cfg.grid.coords t) = (cfg.win w).clip (cfg.grid.coords t')))
    (hkeep : ∀ t Y X, after w t Y X → X = Y) (t : Fin cfg.N) (Y)
    (hY : (mkRD (Ix := Ix) (Name := Name) (U := U) (Lvl := Lvl) cfg c W after).Finds w t Y) : ∃ d, Y = fet cfg W w t d := by
  rcases hclip with h | h
  · exact (RDat.finds_of_fetch _ (h t) Y).mp hY
  · exact RDat.finds_in_eq_fetched _ w hw h hkeep t Y hY

/-- An array's element in the block of a point that writes back, and in no block written back later: it holds what some contents left at that point hold there. -/
theorem arrAt_cover [∀ e, Nonempty (Val e)] {cfg : Cfg sig Λ₀} {c : Dev nD} (rd : RDat τ Val Ix Name U Lvl cfg c) (w : Fin cfg.W) (t : Fin cfg.N)
    (hf : (cfg.win w).flush t = true) (x : ((cfg.win w).xblock (cfg.grid.coords t)).Idx) :
    ∀ (n : Nat) (G : Buf Val ((cfg.win w).arr.view.loc (c.tc : Thread nD τ))), rd.ArrAt w n G → t.val < n → n ≤ cfg.N →
      (∀ u : Fin cfg.N, t.val < u.val → (cfg.win w).flush u = true → ((cfg.win w).blk t).view.emb x ∉ ((cfg.win w).blk u).view.setOn Finset.univ) →
      ∃ X, rd.Leaves w t X ∧ G (((cfg.win w).blk t).view.emb x)
        = _root_.cast (congrArg Val ((cfg.win w).blk t).view.elt_eq.symm) ((cfg.win w).cut (cfg.grid.coords t) X x)
  | 0, _, _, h, _, _ => absurd h (Nat.not_lt_zero _)
  | n + 1, G, hG, ht, hn, hl => by
    have e := RDat.ArrAt_succ rd w ⟨n, hn⟩
    have hG' : (if (cfg.win w).flush ⟨n, hn⟩ then rd.ArrStep w ⟨n, hn⟩ (rd.ArrAt w n) else rd.ArrAt w n) G := by
      have e' : rd.ArrAt w (n + 1) = _ := e
      rw [← e']; exact hG
    by_cases hlt : t.val < n
    · by_cases hfn : (cfg.win w).flush ⟨n, hn⟩ = true
      · rw [if_pos hfn] at hG'
        obtain ⟨G₀, X, hG₀, -, rfl⟩ := hG'
        obtain ⟨X', hX', hx'⟩ := arrAt_cover rd w t hf x n G₀ hG₀ hlt (Nat.le_of_succ_le hn) hl
        refine ⟨X', hX', ?_⟩
        rw [View.write_of_not_mem _ _ _ (hl ⟨n, hn⟩ hlt hfn)]
        exact hx'
      · rw [if_neg hfn] at hG'
        exact arrAt_cover rd w t hf x n G hG' hlt (Nat.le_of_succ_le hn) hl
    · have htn : t = ⟨n, hn⟩ := Fin.ext (by show t.val = n; omega)
      rw [← htn, if_pos hf] at hG'
      obtain ⟨G₀, X, -, hX, rfl⟩ := hG'
      exact ⟨X, hX, View.write_emb_of_mem _ _ (Finset.mem_univ x)⟩

/-- What a region's arrays may hold after `n` points: some contents that they may hold, window by window. -/
theorem arraysAt_some [∀ e, Nonempty (Val e)] {cfg : Cfg sig Λ₀} {c : Dev nD} (rd : RDat τ Val Ix Name U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

/-! ### The state between two steps -/

/-- A core between two steps: its unscoped buffers at some valuation satisfying `P`, its generator's register, nothing owed. -/
def St (P : Dev nD → Valuation τ sig Val → Prop) (c : Dev nD) : sProp 𝕄 :=
  iprop(∃ W, StableHlo.held (c.tc : Thread nD τ) (ucRefs τ sig) W ∗ ⌜P c W⌝ ∗ ((∃ r, prngReg c r) ∗ ∃ Wd, owes (c : Thread nD τ) 0 Wd))

section Seg

variable {P : Type} [Fintype P] (pcs : P → PCfg sig Λ₀ Val) (a : (p : P) → (pcs p).Adm) (ι : Ix)
  (defs₀ : Defs nD τ sig Val Λ₀) (𝒱₀ : Variants)
  (L : GSem nD τ sig → Finset Ix) (lv : GSem nD τ sig → Ix → Lvl)

/-- The valuation after a region: the output window's array at `X`, everything else as before. -/
abbrev upd (cfg : Cfg sig Λ₀) (o : Fin cfg.W) (c : Dev nD) (W : Valuation τ sig Val) (X : Buf Val ((cfg.win o).arr.view.loc (c.tc : Thread nD τ))) : Valuation τ sig Val :=
  Function.update W (Proc.devRef .tc (arrRef cfg.spec o)) X

omit [Fintype P] in
/-- After the region every window's array is at the updated valuation. -/
theorem upd_arr {cfg : Cfg sig Λ₀} {c : Dev nD} {W : Valuation τ sig Val} {after : (w : Fin cfg.W) → Fin cfg.N → (Y X : (cfg.win w).block.Idx → Val (cfg.win w).elt) → Prop}
    (hin : SharedIn cfg.spec) (o : Fin cfg.W) (ho : ∀ w, (cfg.win w).isOut = true → w = o) (hoo : (cfg.win o).isOut = true) (n : Nat)
    (A : (w : Fin cfg.W) → Buf Val ((cfg.win w).arr.view.loc (c.tc : Thread nD τ)))
    (hA : ∀ w, (mkRD (Ix := Ix) (Name := Name) (U := U) (Lvl := Lvl) cfg c W after).ArrAt w n (A w)) (w : Fin cfg.W) :
    A w = upd cfg o c W (A o) (Proc.devRef .tc (arrRef cfg.spec w)) := by
  by_cases hw : w = o
  · subst hw; unfold upd; rw [Function.update_self]
  · have hi : (cfg.win w).isOut = false := by
      cases h : (cfg.win w).isOut with
      | false => rfl
      | true => exact absurd (ho w h) hw
    have hne : Proc.devRef (τ := τ) .tc (arrRef cfg.spec w) ≠ Proc.devRef .tc (arrRef cfg.spec o) := fun e => by
      have e' : arrRef cfg.spec o = arrRef cfg.spec w := (Proc.devRef_injective (τ := τ) (sig := sig) .tc e).symm
      have h1 := hin o w (fun h => hw h.symm) e'
      have h2 := hoo
      exact Bool.false_ne_true (h1.symm.trans h2)
    unfold upd
    rw [Function.update_of_ne hne]
    have h := hA w
    rw [RDat.ArrAt_in _ w hi n] at h
    exact h

/-- The record of a region of one output window: entered with every unscoped buffer at `W`, left with them at `W` updated at the output's array. -/
def regSegOf [∀ e, Nonempty (Val e)] (rd : (p : P) → (c : Dev nD) → RDat τ Val Ix Name U Lvl (pin pcs a p) c) (p : P)
    (W : Valuation τ sig Val) (o : Fin (pin pcs a p).W)
    (after : (w : Fin (pin pcs a p).W) → Fin (pin pcs a p).N → (Y X : ((pin pcs a p).win w).block.Idx → Val ((pin pcs a p).win w).elt) → Prop)
    (hrd : ∀ c, rd p c = mkRD (pin pcs a p) c W after)
    (kit : PLaunchFacts₀ (nD := nD) (τ := τ) pcs p) (hK : (pcs p).pre.K = 0)
    (ho : ∀ w, ((pin pcs a p).win w).isOut = true → w = o) (hoo : ((pin pcs a p).win o).isOut = true)
    (hbody : ∀ c, (mkRD (Ix := Ix) (Name := Name) (U := U) (Lvl := Lvl) (pin pcs a p) c W after).BodyObligation defs₀ 𝒱₀ ι Set.univ) :
    RDat.RegionSeg pcs a rd ι defs₀ 𝒱₀ L lv p where
  win := kit.win
  block_pos := kit.block_pos
  stage_whole := kit.stage_whole
  K := PEmpty
  osem := fun k => k.elim
  ho := OwnSemFacts.none (pcs p).spec
  hbody c := by rw [hrd c]; exact hbody c
  hwaits c := RDat.hwaits_of_owed_zero pcs a rd ι L lv p (fun c t => by rw [hrd c]; rfl) c
  pre c := iprop(StableHlo.held (c.tc : Thread nD τ) (ucRefs τ sig) W ∗ (∃ r, prngReg c r) ∗ ∃ Wd, owes (c : Thread nD τ) 0 Wd)
  post c := iprop(∃ X, StableHlo.held (c.tc : Thread nD τ) (ucRefs τ sig) (upd (pin pcs a p) o c W X)
    ∗ ⌜(mkRD (Ix := Ix) (Name := Name) (U := U) (Lvl := Lvl) (pin pcs a p) c W after).ArrAt o (pin pcs a p).N X⌝
    ∗ ((∃ r, prngReg c r) ∗ ∃ Wd, owes (c : Thread nD τ) 0 Wd))
  X c := iprop(∃ r, prngReg c r)
  Y c := iprop(∃ r, prngReg c r)
  Z c := unscopedRest (pin pcs a p).spec c (fun b => W (Proc.devRef .tc b))
  hentry c := by
    rw [hrd c, prefHeld_of_none _ hK]
    have e := unscopedBufs_split₀ (Ix := Ix) (Name := Name) (U := U) (Lvl := Lvl) (pin pcs a) p kit.win.arr_unscoped c (fun b => W (Proc.devRef .tc b))
    have ea := RDat.arrBufs_eq_arrays (mkRD (Ix := Ix) (Name := Name) (U := U) (Lvl := Lvl) (pin pcs a p) c W after) kit.sharedIn kit.arr_whole
      (fun _ _ => rfl) (fun b => W (Proc.devRef .tc b)) (mkRD (Ix := Ix) (Name := Name) (U := U) (Lvl := Lvl) (pin pcs a p) c W after).A (fun _ => rfl)
    rw [← unscopedBufs_held c W, e, ea]
    iintro ⟨⟨⟨Ha, Hr⟩, Hp, HO⟩, -, -⟩
    imodintro
    isplitl [Ha]; · iexact Ha
    isplitr; · iempintro
    isplitl [HO]
    · unfold RDat.owesAt owesWithin RDat.bound
      icases HO with ⟨%Wd, HO⟩; iexists Wd; isplitr; · ipureintro; exact fun _ _ => Or.inl trivial
      iexact HO
    isplitl [Hp]; · iexact Hp
    iexact Hr
  hin c := by
    rw [hrd c]
    show _ ⊢ iprop(scopedRest (pin pcs a p).spec c ∗ ∃ r, prngReg c r)
    iintro ⟨Hp, -, Hr⟩
    isplitl [Hr]; · iexact Hr
    iexact Hp
  hout c := by
    rw [hrd c]; unfold ownSems0; rw [Finset.univ_eq_empty, BI.bigSep_empty]
    show iprop(scopedRest (pin pcs a p).spec c ∗ ∃ r, prngReg c r) ⊢ _
    iintro ⟨Hr, Hp⟩
    isplitl [Hp]; · iexact Hp
    isplitr; · iempintro
    iexact Hr
  hexit c := by
    rw [hrd c]
    iintro ⟨Ha, HO, Hp, Hr⟩
    ihave Ha := (arraysAt_some (mkRD (Ix := Ix) (Name := Name) (U := U) (Lvl := Lvl) (pin pcs a p) c W after) (pin pcs a p).N) $$ Ha
    icases Ha with ⟨%A, %hA, Ha⟩
    imodintro
    iexists A o
    have hF := upd_arr kit.sharedIn o ho hoo (pin pcs a p).N A hA
    have e := unscopedBufs_split₀ (Ix := Ix) (Name := Name) (U := U) (Lvl := Lvl) (pin pcs a) p kit.win.arr_unscoped c
      (fun b => upd (pin pcs a p) o c W (A o) (Proc.devRef .tc b))
    have ea := RDat.arrBufs_eq_arrays (mkRD (Ix := Ix) (Name := Name) (U := U) (Lvl := Lvl) (pin pcs a p) c W after) kit.sharedIn kit.arr_whole
      (fun _ _ => rfl) (fun b => upd (pin pcs a p) o c W (A o) (Proc.devRef .tc b)) A hF
    have er : (unscopedRest (pin pcs a p).spec c (fun b => upd (pin pcs a p) o c W (A o) (Proc.devRef .tc b)) : sProp 𝕄)
        = unscopedRest (pin pcs a p).spec c (fun b => W (Proc.devRef .tc b)) := by
      unfold unscopedRest
      refine bigSep_congr fun b hb => ?_
      have hne : Proc.devRef (τ := τ) .tc b ≠ Proc.devRef .tc (arrRef (pin pcs a p).spec o) := fun e => by
        have e' := Proc.devRef_injective (τ := τ) (sig := sig) .tc e
        exact (Finset.mem_sdiff.mp hb).2 (Finset.mem_image.mpr ⟨o, Finset.mem_univ _, e'.symm⟩)
      exact congrArg (fun x => (((c.tc : Thread nD τ).loc b) ↦{fullShare} x : sProp 𝕄)) (Function.update_of_ne hne _ _)
    rw [← unscopedBufs_held c (upd (pin pcs a p) o c W (A o)), e, ea, er]
    isplitl [Ha Hr]
    · isplitl [Ha]; · iexact Ha
      iexact Hr
    isplitr; · ipureintro; exact hA o
    isplitl [Hp]; · iexact Hp
    unfold RDat.owesAt owesWithin
    icases HO with ⟨%Wd, -, HO⟩; iexists Wd; iexact HO

end Seg

/-! ### The segments of a run and the run -/

section Run

variable {P : Type} [Fintype P] [DecidableEq P] [∀ e, Nonempty (Val e)]

/-- The algebra of a run: one copy of the pipeline library's rounds component per region, and one that is not used. -/
abbrev UU (nD : Nat) (τ : Topo) (sig : RefSig) (P : Type) : Type := IProdConst P (URounds (GSem nD τ sig) Unit) × URounds (GSem nD τ sig) Unit

/-- No wait names a level. -/
abbrev L₀ (nD : Nat) (τ : Topo) (sig : RefSig) : GSem nD τ sig → Finset Unit := fun _ => ∅
abbrev lv₀ (nD : Nat) (τ : Topo) (sig : RefSig) : GSem nD τ sig → Unit → ℕ := fun _ _ => 0

variable (pcs : P → PCfg sig Λ₀ Val) (a : (p : P) → (pcs p).Adm)
  (phinj : Function.Injective (cellOf (nD := nD) (τ := τ) (pin pcs a)))
  (defs₀ : Defs nD τ sig Val Λ₀)

/-- There is no host loop. -/
abbrev loops₀ : Fin 0 → Prog (TpuEff nD τ sig Val (HostLoop.Sig (Sig Λ₀ P fun p => (pcs p).Adm) 0) .tc) PUnit := fun l => l.elim0

/-- One ticket per region, entered once; the exact datum in it is not used. -/
def tk (p : P) : Ticket (Ix := Unit) (Name := ℕ) (U := UU nD τ sig P) (Lvl := ℕ) (nD := nD) (τ := τ) pcs a where
  p := p
  pdats _ _ := { A := fun _ => Classical.arbitrary _, after := fun _ _ _ => Classical.arbitrary _, Φ := fun _ => BI.emp, q := fun _ => fullShare, owed := fun _ => 0 }
  EP := embAt p

/-- A segment of the run. -/
abbrev KSeg : Type 1 := CSeg (Ix := Unit) (Name := ℕ) (U := UU nD τ sig P) (Lvl := ℕ) pcs a defs₀ Variants.none (L₀ nD τ sig) (lv₀ nD τ sig) (loops₀ pcs) (tk pcs a)

/-- A stretch of host operations, from any valuation satisfying `Pk`. -/
def hostSeg (ops : List (HloOp τ sig Val)) (hS : ∀ op ∈ ops, op.bufs ⊆ ucRefs τ sig) (hf : ∀ op ∈ ops, op.fresh = ∅)
    (Pk : Dev nD → Valuation τ sig Val → Prop) : KSeg (nD := nD) (τ := τ) pcs a defs₀ :=
  CSeg.exSel (fun W c => Pk c W)
    (fun W => CSeg.ofOps _ _ _ _ _ _ _ _ (ucRefs τ sig) ops hS hf (fun _ => W) (fun c => iprop((∃ r, prngReg c r) ∗ ∃ Wd, owes (c : Thread nD τ) 0 Wd)))
    (StableHlo.seq ops) (fun _ => rfl) 0 (fun _ => le_rfl) ∅ (fun _ => rfl)

/-- What is known after the stretch. -/
def hostNext (ops : List (HloOp τ sig Val)) (Pk : Dev nD → Valuation τ sig Val → Prop) (c : Dev nD) (W' : Valuation τ sig Val) : Prop :=
  ∃ W, Pk c W ∧ W' = StableHlo.after ops W

theorem hostSeg_pre (ops : List (HloOp τ sig Val)) (hS : ∀ op ∈ ops, op.bufs ⊆ ucRefs τ sig) (hf : ∀ op ∈ ops, op.fresh = ∅)
    (Pk : Dev nD → Valuation τ sig Val → Prop) (c : Dev nD) : St Pk c ⊢ (hostSeg pcs a defs₀ ops hS hf Pk).pre c := by
  show _ ⊢ iprop(∃ W, ⌜Pk c W⌝ ∗ (StableHlo.held (c.tc : Thread nD τ) (ucRefs τ sig) W ∗ ((∃ r, prngReg c r) ∗ ∃ Wd, owes (c : Thread nD τ) 0 Wd)))
  unfold St
  iintro ⟨%W, Hh, %hW, HR⟩
  iexists W
  isplitr; · ipureintro; exact hW
  isplitl [Hh]; · iexact Hh
  iexact HR

theorem hostSeg_post (ops : List (HloOp τ sig Val)) (hS : ∀ op ∈ ops, op.bufs ⊆ ucRefs τ sig) (hf : ∀ op ∈ ops, op.fresh = ∅)
    (Pk : Dev nD → Valuation τ sig Val → Prop) (c : Dev nD) : (hostSeg pcs a defs₀ ops hS hf Pk).post c ⊢ St (hostNext ops Pk) c :=
  CSeg.exSel_post c fun W hW => by
    show iprop(StableHlo.held (c.tc : Thread nD τ) (ucRefs τ sig) (StableHlo.after ops W) ∗ ((∃ r, prngReg c r) ∗ ∃ Wd, owes (c : Thread nD τ) 0 Wd)) ⊢ _
    unfold St
    iintro ⟨Hh, HR⟩
    iexists (StableHlo.after ops W)
    isplitl [Hh]; · iexact Hh
    isplitr; · ipureintro; exact ⟨W, hW, rfl⟩
    iexact HR

/-- What a region needs besides its body: its launch facts and its one output window. -/
structure RegFacts (p : P) (o : Fin (pin pcs a p).W) : Prop where
  kit : PLaunchFacts₀ (nD := nD) (τ := τ) pcs p
  hK : (pcs p).pre.K = 0
  ho : ∀ w, ((pin pcs a p).win w).isOut = true → w = o
  hoo : ((pin pcs a p).win o).isOut = true

/-- What a region's body may leave, window by window and point by point, for each valuation it is entered at. -/
abbrev After (p : P) : Type :=
  Valuation τ sig Val → (w : Fin (pin pcs a p).W) → Fin (pin pcs a p).N → (Y X : ((pin pcs a p).win w).block.Idx → Val ((pin pcs a p).win w).elt) → Prop

/-- The data of all regions entered at one valuation. -/
abbrev rdAll (after : (p : P) → After (τ := τ) pcs a p) (W : Valuation τ sig Val) (p : P) (c : Dev nD) : RDat τ Val Unit ℕ (UU nD τ sig P) ℕ (pin pcs a p) c :=
  mkRD (pin pcs a p) c W (after p W)

/-- A region, from any valuation satisfying `Pk`. -/
def regSeg (after : (p : P) → After (τ := τ) pcs a p) (p : P) (o : Fin (pin pcs a p).W) (h : RegFacts (nD := nD) (τ := τ) pcs a p o)
    (hbody : ∀ W c, (rdAll (nD := nD) pcs a after W p c).BodyObligation defs₀ Variants.none () Set.univ)
    (Pk : Dev nD → Valuation τ sig Val → Prop) : KSeg (nD := nD) (τ := τ) pcs a defs₀ :=
  CSeg.regionFR pcs a () phinj defs₀ Variants.none (L₀ nD τ sig) (lv₀ nD τ sig) (loops₀ pcs) (tk pcs a) p (rdAll pcs a after)
    (fun W => regSegOf pcs a () defs₀ Variants.none (L₀ nD τ sig) (lv₀ nD τ sig) (rdAll pcs a after W) p W o (after p W) (fun _ => rfl) h.kit h.hK h.ho h.hoo (hbody W))
    (fun W c => Pk c W)

/-- What is known after the region: the output's array at contents that it may hold after the last point, all else as before. -/
def regNext (after : (p : P) → After (τ := τ) pcs a p) (p : P) (o : Fin (pin pcs a p).W) (Pk : Dev nD → Valuation τ sig Val → Prop)
    (c : Dev nD) (W' : Valuation τ sig Val) : Prop :=
  ∃ W X, Pk c W ∧ (rdAll (nD := nD) pcs a after W p c).ArrAt o (pin pcs a p).N X ∧ W' = upd (pin pcs a p) o c W X

theorem regSeg_pre (after : (p : P) → After (τ := τ) pcs a p) (p : P) (o : Fin (pin pcs a p).W) (h : RegFacts (nD := nD) (τ := τ) pcs a p o)
    (hbody : ∀ W c, (rdAll (nD := nD) pcs a after W p c).BodyObligation defs₀ Variants.none () Set.univ)
    (Pk : Dev nD → Valuation τ sig Val → Prop) (c : Dev nD) : St Pk c ⊢ (regSeg pcs a phinj defs₀ after p o h hbody Pk).pre c := by
  show _ ⊢ iprop(∃ W, ⌜Pk c W⌝ ∗ (StableHlo.held (c.tc : Thread nD τ) (ucRefs τ sig) W ∗ ((∃ r, prngReg c r) ∗ ∃ Wd, owes (c : Thread nD τ) 0 Wd)))
  unfold St
  iintro ⟨%W, Hh, %hW, HR⟩
  iexists W
  isplitr; · ipureintro; exact hW
  isplitl [Hh]; · iexact Hh
  iexact HR

theorem regSeg_post (after : (p : P) → After (τ := τ) pcs a p) (p : P) (o : Fin (pin pcs a p).W) (h : RegFacts (nD := nD) (τ := τ) pcs a p o)
    (hbody : ∀ W c, (rdAll (nD := nD) pcs a after W p c).BodyObligation defs₀ Variants.none () Set.univ)
    (Pk : Dev nD → Valuation τ sig Val → Prop) (c : Dev nD) : (regSeg pcs a phinj defs₀ after p o h hbody Pk).post c ⊢ St (regNext pcs a after p o Pk) c :=
  CSeg.regionFR_post c fun W hW => by
    show iprop(∃ X, StableHlo.held (c.tc : Thread nD τ) (ucRefs τ sig) (upd (pin pcs a p) o c W X)
      ∗ ⌜(rdAll (nD := nD) pcs a after W p c).ArrAt o (pin pcs a p).N X⌝ ∗ ((∃ r, prngReg c r) ∗ ∃ Wd, owes (c : Thread nD τ) 0 Wd)) ⊢ _
    unfold St
    iintro ⟨%X, Hh, %hX, HR⟩
    iexists (upd (pin pcs a p) o c W X)
    isplitl [Hh]; · iexact Hh
    isplitr; · ipureintro; exact ⟨W, X, hW, hX, rfl⟩
    iexact HR

omit [Fintype P] [DecidableEq P] [∀ e, Nonempty (Val e)] in
/-- A chain may end in less than it gives. -/
theorem chains_end {J : Type} [DecidableEq J] {tk : J → Ticket (Ix := Unit) (Name := ℕ) (U := U) (Lvl := ℕ) (nD := nD) (τ := τ) pcs a}
    {T' T'' : Dev nD → sProp (MT nD τ sig Unit Val ℕ U ℕ)} (h : ∀ c, T' c ⊢ T'' c) :
    ∀ {T : Dev nD → sProp (MT nD τ sig Unit Val ℕ U ℕ)} {l : List (CSeg (Ix := Unit) pcs a defs₀ Variants.none (L₀ nD τ sig) (lv₀ nD τ sig) (loops₀ pcs) tk)},
    CSeg.Chains T l T' → CSeg.Chains T l T''
  | _, [], hc => fun c => (hc c).trans (h c)
  | _, _ :: _, hc => ⟨hc.1, chains_end h hc.2⟩

variable (m : (ℓ : Loc nD τ sig) → Buf Val ℓ)

/-- At launch: the unscoped buffers as the memory has them. -/
def atLaunch (c : Dev nD) (W : Valuation τ sig Val) : Prop := W = fun b => m ((c : Dev nD), b)

include phinj in
/-- THE RUN of a program made of such segments: it ends with every unscoped buffer at a valuation of which the last segment's fact holds. -/
theorem run (g : Dev nD → PrngReg) (main : Dev nD → Prog (TpuEff nD τ sig Val (Sig Λ₀ P fun p => (pcs p).Adm) .tc) PUnit)
    (segs : List (KSeg (nD := nD) (τ := τ) pcs a defs₀))
    (hmain : ∀ c, HostLoop.liftProg (L := 0) (main c) = CSeg.runL segs)
    (hdis : segs.Pairwise fun s s' => Disjoint s.T s'.T)
    (Pn : Dev nD → Valuation τ sig Val → Prop)
    (hch : CSeg.Chains (St (atLaunch m)) segs (St Pn))
    {Q : PUnit × MemSt nD τ sig Val → Prop} (hQ : ∀ s : MemSt nD τ sig Val, (∀ c : Dev nD, ∃ W, Pn c W ∧ ∀ b ∈ ucRefs τ sig, s.mem ((c : Dev nD), b) = W b) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  refine HostLoop.θ_run_of_lift (loops₀ pcs) _ main _ Q ?_
  refine θ_run_regions_loop_kit_sems pcs a phinj defs₀ Variants.none (L₀ nD τ sig) (lv₀ nD τ sig) (loops₀ pcs) (tk pcs a) m g _ segs
    (fun c Q => by rw [hmain c]) hdis (O₀ := fun _ => 0) (hL := fun _ _ => rfl) (G := fun _ => BI.emp)
    (u₀ := (fun _ => initOf (cells (pin pcs a) phinj) (launchToks (pin pcs a) phinj), 1))
    (hu₀ := ?_) (T₀ := St (atLaunch m)) (Tₙ := fun c => iprop(∃ W, StableHlo.held (c.tc : Thread nD τ) (ucRefs τ sig) W ∗ ⌜Pn c W⌝)) (hch := ?_) (hinit := ?_)
    (QY := fun c s => ∃ W, Pn c W ∧ ∀ b ∈ ucRefs τ sig, s.mem ((c : Dev nD), b) = W b) (hfin := ?_) (hQ := hQ)
  · iintro Hu
    ihave H := (ownU_pair _ _) $$ Hu
    icases H with ⟨HP, -⟩
    ihave HP := (own_iprod _) $$ HP
    imodintro
    isplitl [HP]; · iexact HP
    rw [BI.bigSep_emp_const]; iempintro
  · refine chains_end pcs a defs₀ (fun c => ?_) hch
    unfold St
    iintro ⟨%W, Hh, %hW, -, HO⟩
    isplitl [Hh]
    · iexists W
      isplitl [Hh]; · iexact Hh
      ipureintro; exact hW
    iexact HO
  · have h1 (c : Dev nD) : iprop(unscopedBufs c (fun b => m ((c.tc : Thread nD τ).loc b)) ∗ unscopedSems0 c
          ∗ owes (c.tc : Thread nD τ) (0 : CellTallies nD τ sig Unit) ∅ ∗ launchCred (fun _ => 0) c ∗ prngReg c (g c) ∗ BI.emp)
        ⊢ (St (atLaunch m) c : sProp (MT nD τ sig Unit Val ℕ (UU nD τ sig P) ℕ)) := by
      have e := unscopedBufs_held (Ix := Unit) (Name := ℕ) (U := UU nD τ sig P) (Lvl := ℕ) c (fun b => m ((c : Dev nD), b))
      rw [show unscopedBufs c (fun b => m ((c.tc : Thread nD τ).loc b)) = StableHlo.held (c.tc : Thread nD τ) (ucRefs τ sig) (fun b => m ((c : Dev nD), b)) from e]
      unfold St
      iintro ⟨Hh, -, HO, -, Hp, -⟩
      iexists _
      isplitl [Hh]; · iexact Hh
      isplitr; · ipureintro; exact rfl
      isplitl [Hp]; · iexists _; iexact Hp
      iexists _; iexact HO
    iintro ⟨H, -⟩
    ihave H' := (show _ ⊢ bigSep Finset.univ (St (atLaunch m)) from bigSep_mono fun c _ => h1 c) $$ H
    imodintro
    iexact H'
  · intro c s'
    unfold StableHlo.held
    iintro ⟨⟨%W, Hh, %hW⟩, HSI⟩
    ihave Hr := (pointsTo_read_all (ucRefs τ sig) (fun b => ((c : Dev nD), b)) W s') $$ [Hh HSI]
    · isplitl [Hh] <;> iassumption
    icases Hr with ⟨%h, HSI⟩
    imodintro
    isplitr
    · ipureintro; exact ⟨W, hW, h⟩
    · iexact HSI

end Run

end Cert.Region

end
-- ==== Proof.Cells.lean ====
/- A fetched block and a written array, element by element: which element of a window's array a block's element is. -/
module

public import proofs.«01_k».proof.Proof.Region

@[expose] public section

noncomputable section

namespace Cert.Region

open Idealize.ShloMosaic Idealize.ShloMosaic.TcCoe
open Idealize.SL Idealize.SL.RA
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels}

/-- Element `y` of the array is the element `x` of the block at point `t`, and the transfer moves it. -/
def InBlk (cfg : Cfg sig Λ₀) (w : Fin cfg.W) (t : Fin cfg.N) (x : (cfg.win w).block.Idx) (y : (cfg.win w).shape.Idx) : Prop :=
  ∀ a, (x a).val < (cfg.win w).xsize (cfg.grid.coords t) a
    ∧ (y a).val = (cfg.win w).kind.off ((cfg.win w).index t a) ((cfg.win w).size a) + (x a).val

/-- A fetched block holds the array's elements on the part inside the array. -/
theorem fet_at (cfg : Cfg sig Λ₀) (W : Valuation τ sig Val) (w : Fin cfg.W) (t : Fin cfg.N) (d : (cfg.win w).block.Idx → Val (cfg.win w).elt)
    (x : (cfg.win w).block.Idx) (y : (cfg.win w).shape.Idx) (h : InBlk cfg w t x y) :
    fet cfg W w t d x = (cfg.win w).arr.view.read Val (W (Proc.devRef .tc (arrRef cfg.spec w))) y := by
  have hm : (cfg.win w).moved (cfg.grid.coords t) x = true := ((cfg.win w).moved_iff _ _).mpr fun a => (h a).1
  unfold fet Window.fill
  rw [dif_pos hm]
  have e : ((cfg.win w).rect t).emb (fun a => ⟨(x a).val, (h a).1⟩) = y := funext fun a => Fin.ext (by
    rw [Rect.emb_apply]
    show _ + 1 * (x a).val = _
    rw [(h a).2, Nat.one_mul]; rfl)
  rw [← e]; rfl

/-- An element of the array that lies in the block of a point that writes back, and in no block written back later, holds what that point leaves there. -/
theorem arrAt_at [∀ e, Nonempty (Val e)] {cfg : Cfg sig Λ₀} {c : Dev nD} (rd : RDat τ Val Ix Name U Lvl cfg c) (w : Fin cfg.W) (t : Fin cfg.N)
    (hf : (cfg.win w).flush t = true) (x : (cfg.win w).block.Idx) (y : (cfg.win w).shape.Idx) (h : InBlk cfg w t x y)
    (G : Buf Val ((cfg.win w).arr.view.loc (c.tc : Thread nD τ))) (hG : rd.ArrAt w cfg.N G)
    (hl : ∀ u : Fin cfg.N, t.val < u.val → (cfg.win w).flush u = true →
      ∃ a, (y a).val < (cfg.win w).kind.off ((cfg.win w).index u a) ((cfg.win w).size a)
        ∨ (cfg.win w).kind.off ((cfg.win w).index u a) ((cfg.win w).size a) + (cfg.win w).size a ≤ (y a).val) :
    ∃ X, rd.Leaves w t X ∧ (cfg.win w).arr.view.read Val G y = X x := by
  have e : ((cfg.win w).rect t).emb (fun a => ⟨(x a).val, (h a).1⟩) = y := funext fun a => Fin.ext (by
    rw [Rect.emb_apply]
    show _ + 1 * (x a).val = _
    rw [(h a).2, Nat.one_mul]; rfl)
  obtain ⟨X, hX, hx⟩ := arrAt_cover rd w t hf (fun a => ⟨(x a).val, (h a).1⟩) cfg.N G hG t.isLt le_rfl fun u hu hfu hm => by
    obtain ⟨a, ha⟩ := hl u hu hfu
    have hm' : (cfg.win w).arr.view.emb (((cfg.win w).rect t).emb (fun a => ⟨(x a).val, (h a).1⟩)) ∈ ((cfg.win w).arr.view.slice ((cfg.win w).rect u)).set := hm
    rw [e, View.set_slice] at hm'
    have hy := (Finset.mem_map' _).mp hm'
    rw [Rect.mem_set_unit] at hy
    have h1 := hy a
    have h2 := (cfg.win w).xsize_le (cfg.grid.coords u) a
    omega
  refine ⟨X, hX, ?_⟩
  rw [View.read_apply, ← e]
  have hx' : G ((cfg.win w).arr.view.emb (((cfg.win w).rect t).emb (fun a => ⟨(x a).val, (h a).1⟩))) = _ := hx
  rw [hx', cast_cast, cast_eq]

end Cert.Region

end
-- ==== Proof.Softmax.lean ====
/- A softmax accumulated block by block, over the extended reals: the running maximum, the running sum of the weights and the running weighted sum, each rescaled when the maximum grows, end at the softmax of the whole row. -/
module

public import Idealize.ShloMosaic.PureOps.Ideal

@[expose] public section

noncomputable section

namespace Cert.Softmax

open Idealize.ShloMosaic

/-- The word of −∞. -/
theorem neg_inf : Ideal.ofBits .f32 0xFF800000#32 = ⊥ := by simp [Ideal.ofBits, Ideal.ieee]

/-- A maximum folded from −∞. -/
theorem fold_max {ι : Type} (t : Finset ι) (f : ι → EReal) : t.fold max (Ideal.ofBits .f32 0xFF800000#32) f = t.sup f := by
  rw [neg_inf]; rfl

theorem exp_real (r : ℝ) : Ideal.exp (r : EReal) = (Real.exp r : EReal) := rfl
theorem exp_bot : Ideal.exp ⊥ = 0 := rfl
theorem exp_top : Ideal.exp ⊤ = ⊤ := rfl

theorem exp_nonneg (x : EReal) : 0 ≤ Ideal.exp x := by
  induction x with
  | bot => exact le_refl _
  | coe r => rw [exp_real]; exact EReal.coe_nonneg.mpr (Real.exp_pos r).le
  | top => exact le_top

/-- An element below or at the maximum has a weight that is not infinite. -/
theorem exp_ne_top {a b : EReal} (h : a ≤ b) : Ideal.exp (a - b) ≠ ⊤ := by
  induction b with
  | bot => rw [le_bot_iff.mp h]; simp [exp_bot]
  | top => rw [EReal.sub_top]; simp [exp_bot]
  | coe b =>
    induction a with
    | bot => rw [EReal.bot_sub]; simp [exp_bot]
    | top => exact absurd (top_le_iff.mp h) (EReal.coe_ne_top b)
    | coe a => rw [← EReal.coe_sub, exp_real]; exact EReal.coe_ne_top _

/-- Rescaling a weight from the maximum `a` to the larger one `b`. -/
theorem exp_shift {s a b : EReal} (h1 : s ≤ a) (h2 : a ≤ b) : Ideal.exp (s - a) * Ideal.exp (a - b) = Ideal.exp (s - b) := by
  induction a with
  | bot => rw [le_bot_iff.mp h1, EReal.bot_sub, EReal.bot_sub, exp_bot, zero_mul]
  | top => rw [top_le_iff.mp h2, EReal.sub_top, EReal.sub_top, exp_bot, zero_mul]
  | coe a =>
    induction s with
    | bot => rw [EReal.bot_sub, EReal.bot_sub, exp_bot, zero_mul]
    | top => exact absurd (top_le_iff.mp h1) (EReal.coe_ne_top a)
    | coe s =>
      induction b with
      | bot => exact absurd (le_bot_iff.mp h2) (EReal.coe_ne_bot a)
      | top => rw [EReal.sub_top, EReal.sub_top, exp_bot, mul_zero]
      | coe b =>
        rw [← EReal.coe_sub, ← EReal.coe_sub, ← EReal.coe_sub, exp_real, exp_real, exp_real, ← EReal.coe_mul, ← Real.exp_add]
        congr 2
        ring

/-- A finite sum times a factor that is neither negative nor infinite. -/
theorem sum_mul {ι : Type} (t : Finset ι) (f : ι → EReal) (e : EReal) (h0 : 0 ≤ e) (ht : e ≠ ⊤) : (∑ k ∈ t, f k) * e = ∑ k ∈ t, f k * e := by
  classical
  induction t using Finset.induction_on with
  | empty => simp
  | insert a t ha ih => rw [Finset.sum_insert ha, Finset.sum_insert ha, EReal.right_distrib_of_nonneg_of_ne_top h0 ht, ih]

/-- The maximum, the sum of the weights and the weighted sum of the first `N` elements. -/
def top (s : ℕ → EReal) (N : ℕ) : EReal := (Finset.range N).sup s
def den (s : ℕ → EReal) (N : ℕ) : EReal := ∑ k ∈ Finset.range N, Ideal.exp (s k - top s N)
def num (s v : ℕ → EReal) (N : ℕ) : EReal := ∑ k ∈ Finset.range N, Ideal.exp (s k - top s N) * v k

theorem le_top_at (s : ℕ → EReal) (N k : ℕ) (h : k < N) : s k ≤ top s N := Finset.le_sup (f := s) (Finset.mem_range.mpr h)

theorem top_mono (s : ℕ → EReal) {N M : ℕ} (h : N ≤ M) : top s N ≤ top s M := Finset.sup_mono (Finset.range_mono h)

theorem top_add (s : ℕ → EReal) (N B : ℕ) : top s (N + B) = max (top s N) (Finset.univ.sup fun p : Fin B => s (N + p.val)) := by
  refine le_antisymm (Finset.sup_le fun k hk => ?_) (max_le (top_mono s (Nat.le_add_right _ _)) (Finset.sup_le fun p _ => le_top_at s _ _ (by omega)))
  rw [Finset.mem_range] at hk
  by_cases h : k < N
  · exact le_max_of_le_left (le_top_at s N k h)
  · refine le_max_of_le_right ?_
    have := Finset.le_sup (f := fun p : Fin B => s (N + p.val)) (Finset.mem_univ (⟨k - N, by omega⟩ : Fin B))
    simpa [show N + (k - N) = k by omega] using this

/-- A block more: the weighted sum is rescaled and the block's terms are added. -/
theorem num_add (s v : ℕ → EReal) (N B : ℕ) :
    num s v (N + B) = num s v N * Ideal.exp (top s N - top s (N + B)) + ∑ p : Fin B, Ideal.exp (s (N + p.val) - top s (N + B)) * v (N + p.val) := by
  unfold num
  rw [Finset.sum_range_add, sum_mul _ _ _ (exp_nonneg _) (exp_ne_top (top_mono s (Nat.le_add_right _ _)))]
  refine congrArg₂ (fun a b : EReal => a + b) (Finset.sum_congr rfl fun k hk => ?_) (Finset.sum_range fun p => Ideal.exp (s (N + p) - top s (N + B)) * v (N + p))
  rw [← exp_shift (le_top_at s N k (Finset.mem_range.mp hk)) (top_mono s (Nat.le_add_right N B))]
  ac_rfl

theorem den_eq (s : ℕ → EReal) (N : ℕ) : den s N = num s (fun _ => 1) N := by simp [den, num]

/-- So is the sum of the weights. -/
theorem den_add (s : ℕ → EReal) (N B : ℕ) :
    den s (N + B) = den s N * Ideal.exp (top s N - top s (N + B)) + ∑ p : Fin B, Ideal.exp (s (N + p.val) - top s (N + B)) := by
  rw [den_eq, den_eq, num_add]
  simp

/-- Elements at −∞ beyond the first `N` change nothing. -/
theorem top_mask (s : ℕ → EReal) (N B : ℕ) (h : ∀ k, N ≤ k → s k = ⊥) : top s (N + B) = top s N := by
  rw [top_add]
  refine max_eq_left (Finset.sup_le fun p _ => ?_)
  rw [h _ (Nat.le_add_right _ _)]; exact bot_le

theorem num_mask (s v : ℕ → EReal) (N B : ℕ) (h : ∀ k, N ≤ k → s k = ⊥) : num s v (N + B) = num s v N := by
  unfold num
  rw [top_mask s N B h, Finset.sum_range_add]
  refine (congrArg (fun a : EReal => _ + a) (Finset.sum_eq_zero fun p _ => ?_)).trans (add_zero _)
  rw [h _ (Nat.le_add_right _ _), EReal.bot_sub, exp_bot, zero_mul]

theorem den_mask (s : ℕ → EReal) (N B : ℕ) (h : ∀ k, N ≤ k → s k = ⊥) : den s (N + B) = den s N := by
  rw [den_eq, den_eq, num_mask s _ N B h]

/-- With a finite maximum the sum of the weights is not zero. -/
theorem den_ne_zero (s : ℕ → EReal) (N : ℕ) (hN : 0 < N) (h0 : s 0 ≠ ⊥) (ht : ∀ k, k < N → s k ≠ ⊤) : den s N ≠ 0 := by
  obtain ⟨k, hk, hm⟩ := Finset.exists_max_image (Finset.range N) s ⟨0, Finset.mem_range.mpr hN⟩
  have e : top s N = s k := le_antisymm (Finset.sup_le hm) (Finset.le_sup (f := s) hk)
  have hb : s k ≠ ⊥ := fun h => h0 (le_bot_iff.mp (h ▸ hm 0 (Finset.mem_range.mpr hN)))
  have ht' := ht k (Finset.mem_range.mp hk)
  have one : Ideal.exp (s k - top s N) = 1 := by
    rw [e, EReal.sub_self ht' hb, ← EReal.coe_zero, exp_real, Real.exp_zero, EReal.coe_one]
  have : (1 : EReal) ≤ den s N := by
    rw [← one]
    exact Finset.single_le_sum (f := fun k => Ideal.exp (s k - top s N)) (fun k _ => exp_nonneg _) hk
  intro h
  rw [h] at this
  exact absurd this (by norm_num)

/-- Then the weighted sum over the sum of the weights is the sum of the values, each with its weight's share. -/
theorem div_eq (s v : ℕ → EReal) (N : ℕ) (h : den s N ≠ 0) :
    Ideal.div (num s v N) (den s N) = ∑ k ∈ Finset.range N, Ideal.div (Ideal.exp (s k - top s N)) (den s N) * v k := by
  have hn : 0 ≤ den s N := Finset.sum_nonneg fun k _ => exp_nonneg _
  have hi : 0 ≤ (den s N)⁻¹ := EReal.inv_nonneg_of_nonneg hn
  have hi' : (den s N)⁻¹ ≠ ⊤ := by
    intro hh
    induction hd : den s N with
    | bot => rw [hd] at hh; simp at hh
    | top => rw [hd] at hh; simp at hh
    | coe r => rw [hd, ← EReal.coe_inv] at hh; exact EReal.coe_ne_top _ hh
  unfold Ideal.div
  simp only [if_neg h]
  unfold num
  rw [sum_mul _ _ _ hi hi']
  refine Finset.sum_congr rfl fun k _ => ?_
  ac_rfl

/-- The softmax of a row of scores, applied to a column of values. -/
def soft {n : ℕ} (s v : Fin n → EReal) : EReal :=
  ∑ k, Ideal.div (Ideal.exp (s k - Finset.univ.sup s)) (∑ j, Ideal.exp (s j - Finset.univ.sup s)) * v k

/-- A row of `n` elements as a sequence, with −∞ beyond. -/
def ext {n : ℕ} (d : EReal) (s : Fin n → EReal) (k : ℕ) : EReal := if h : k < n then s ⟨k, h⟩ else d

theorem ext_val {n : ℕ} (d : EReal) (s : Fin n → EReal) (k : Fin n) : ext d s k.val = s k := dif_pos k.isLt

theorem top_ext {n : ℕ} (s : Fin n → EReal) : top (ext ⊥ s) n = Finset.univ.sup s := by
  refine le_antisymm (Finset.sup_le fun k hk => ?_) (Finset.sup_le fun k _ => ?_)
  · rw [show ext ⊥ s k = s ⟨k, Finset.mem_range.mp hk⟩ from dif_pos _]
    exact Finset.le_sup (f := s) (Finset.mem_univ _)
  · rw [← ext_val ⊥ s k]; exact le_top_at _ _ _ k.isLt

/-- The accumulated quotient over the first `N` elements is the softmax of the whole row when the rest is masked, no score is +∞ and the first is not −∞. -/
theorem soft_eq {n : ℕ} (s v : Fin n → EReal) (N : ℕ) (hN : 0 < N) (hn : N ≤ n) (hmask : ∀ k : Fin n, N ≤ k.val → s k = ⊥)
    (h0 : s ⟨0, by omega⟩ ≠ ⊥) (ht : ∀ k, s k ≠ ⊤) :
    Ideal.div (num (ext ⊥ s) (ext 0 v) N) (den (ext ⊥ s) N) = soft s v := by
  have hm : ∀ k, N ≤ k → ext ⊥ s k = ⊥ := fun k hk => by
    unfold ext
    split
    · exact hmask _ hk
    · rfl
  have e1 := num_mask (ext ⊥ s) (ext 0 v) N (n - N) hm
  have e2 := den_mask (ext ⊥ s) N (n - N) hm
  rw [show N + (n - N) = n by omega] at e1 e2
  rw [← e1, ← e2, div_eq]
  · unfold soft
    rw [Finset.sum_range]
    simp only [ext_val, top_ext]
    unfold den
    rw [Finset.sum_range]
    simp only [ext_val, top_ext]
  · refine den_ne_zero _ _ (by omega) ?_ ?_
    · rw [show ext ⊥ s 0 = s ⟨0, by omega⟩ from dif_pos _]; exact h0
    · intro k hk
      rw [show ext ⊥ s k = s ⟨k, hk⟩ from dif_pos _]; exact ht _

end Cert.Softmax

end
-- ==== Proof.Model.lean ====
/- The layer in plain formulas over the extended reals: the RMS norm of a row, the projection to queries, keys and values, the rotation of the pairs, the causal attention, the dense product, the gated product, one element of the result. -/
module

public import proofs.«01_k».proof.Proof.Softmax

@[expose] public section

noncomputable section

namespace Cert.Model

open Idealize.ShloMosaic

/-- The RMS norm of a row `x` with weights `w`, at `j`. The two words are 4096 and the norm's 1e-5. -/
def rms {n : Nat} (x w : Fin n → EReal) (j : Fin n) : EReal :=
  x j * Ideal.rsqrt (Ideal.div (∑ k, x k * x k) (Ideal.ofBits .f32 0x45800000#32) + Ideal.ofBits .f32 0x3727C5AC#32) * w j

/-- The projection of a normed row at column `n`: its product with the weights' row and the bias. -/
def proj (l : Fin 4096 → EReal) (wq : Fin 4608 → Fin 4096 → EReal) (b : Fin 4608 → EReal) (n : Fin 4608) : EReal :=
  (∑ k, l k * wq n k) + b n

/-- The other column of the pair of column `n`. -/
def swap (n : Fin 4608) : Fin 4608 := if n.val % 2 = 0 then ⟨(n.val + 1) % 4608, by omega⟩ else ⟨n.val - 1, by omega⟩

/-- The pair's number within the rotated half of a head. -/
def pair (n : ℕ) : Fin 32 := ⟨n % 64 / 2, by omega⟩

/-- Whether column `n` is rotated: the first 64 of the 128 columns of each query and key head. -/
def Turned (n : ℕ) : Prop := n < 4352 ∧ n % 128 < 64

instance (n : ℕ) : Decidable (Turned n) := by unfold Turned; infer_instance

/-- The rotated row `y` at column `n`, by the row's cosines and sines `c`. -/
def rope (y : Fin 4608 → EReal) (c : Fin 32 → Fin 2 → EReal) (n : Fin 4608) : EReal :=
  if Turned n.val then
    if n.val % 2 = 0 then y n * c (pair n.val) 0 - y (swap n) * c (pair n.val) 1
    else y n * c (pair n.val) 0 + y (swap n) * c (pair n.val) 1
  else y n

/-- Column `d` of query head `h`, of the key head and of the value head that it reads. -/
def qcol (h : Fin 32) (d : Fin 128) : Fin 4608 := ⟨h.val * 128 + d.val, by omega⟩
def kcol (h : Fin 32) (d : Fin 128) : Fin 4608 := ⟨4096 + h.val / 16 * 128 + d.val, by omega⟩
def vcol (h : Fin 32) (d : Fin 128) : Fin 4608 := ⟨4352 + h.val / 16 * 128 + d.val, by omega⟩

/-- The masked score of row `s` for row `r` in head `h`: the scaled product, −∞ when `s` comes after `r`. -/
def score (z : Fin 2048 → Fin 4608 → EReal) (h : Fin 32) (r s : Fin 2048) : EReal :=
  if s.val ≤ r.val then (∑ d, z r (qcol h d) * z s (kcol h d)) * Ideal.ofBits .f32 0x3DB504F3#32 else ⊥

/-- The attention's result at row `r`, head `h`, column `d`. -/
def attend (z : Fin 2048 → Fin 4608 → EReal) (r : Fin 2048) (h : Fin 32) (d : Fin 128) : EReal :=
  Softmax.soft (score z h r) (fun s => z s (vcol h d))

/-- The same at column `n` of the heads side by side. -/
def ctx (z : Fin 2048 → Fin 4608 → EReal) (r : Fin 2048) (n : Fin 4096) : EReal :=
  attend z r ⟨n.val / 128, by omega⟩ ⟨n.val % 128, by omega⟩

/-- The gated product of a row `l`: `a · σ(a) · g` of its products `a` with `wa` and `g` with `wg`. -/
def gated {n : Nat} (l wa wg : Fin n → EReal) : EReal :=
  (∑ k, l k * wa k) * Ideal.logistic (∑ k, l k * wa k) * ∑ k, l k * wg k

/-- The row of `w_h4h` that makes element `q` of the gated product's first factor, … -/
def lo (q : Fin 13696) : Fin 27392 := ⟨q.val, by omega⟩
/-- … and the row that makes its second. -/
def hi (q : Fin 13696) : Fin 27392 := ⟨13696 + q.val, by omega⟩

/-- The gated product from the norm's row `l`, at `q`. -/
def up (l : Fin 4096 → EReal) (wu : Fin 27392 → Fin 4096 → EReal) (q : Fin 13696) : EReal := gated l (wu (lo q)) (wu (hi q))

/-- The second half's result at row `r` and column `n`: the residual and the product of the gated row with `w_4hh`. -/
def half (x : Fin 2048 → Fin 4096 → EReal) (w : Fin 4096 → EReal) (wu : Fin 27392 → Fin 4096 → EReal) (wd : Fin 4096 → Fin 13696 → EReal)
    (r : Fin 2048) (n : Fin 4096) : EReal :=
  x r n + ∑ q, up (rms (x r) w) wu q * wd n q

/-- The rotated projections of the normed rows. -/
def qkv (x : Fin 2048 → Fin 4096 → EReal) (c : Fin 2048 → Fin 32 → Fin 2 → EReal) (w : Fin 4096 → EReal) (wq : Fin 4608 → Fin 4096 → EReal)
    (b : Fin 4608 → EReal) (r : Fin 2048) (n : Fin 4608) : EReal :=
  rope (proj (rms (x r) w) wq b) (c r) n

/-- The residual and the dense product of the attention's rows. -/
def dense (x a : Fin 2048 → Fin 4096 → EReal) (wo : Fin 4096 → Fin 4096 → EReal) (r : Fin 2048) (n : Fin 4096) : EReal :=
  x r n + ∑ k, a r k * wo n k

/-- The layer's result at row `r` and column `n`. -/
def layer (x : Fin 2048 → Fin 4096 → EReal) (c : Fin 2048 → Fin 32 → Fin 2 → EReal) (w1 : Fin 4096 → EReal) (wq : Fin 4608 → Fin 4096 → EReal)
    (b : Fin 4608 → EReal) (wo : Fin 4096 → Fin 4096 → EReal) (w2 : Fin 4096 → EReal) (wu : Fin 27392 → Fin 4096 → EReal) (wd : Fin 4096 → Fin 13696 → EReal)
    (r : Fin 2048) (n : Fin 4096) : EReal :=
  half (dense x (ctx (qkv x c w1 wq b)) wo) w2 wu wd r n

end Cert.Model

end
-- ==== Proof.KernelIdealPay.lean ====
/- What each region's body computes of its blocks, element by element, over the extended reals. -/
module

public import proofs.«01_k».proof.Proof.Model
public import proofs.«01_k».proof.Proof.Gen.KernelIdeal.Skeleton
public import Idealize.ShloMosaic.Lib.Pointwise
public import Idealize.ShloMosaic.PureOps.Ideal

@[expose] public section

set_option maxRecDepth 16384

noncomputable section

namespace Cert.KernelIdeal.Pay

open Cert.KernelIdeal Cert.KernelIdeal.Gen
open Idealize.ShloMosaic

/-- A selection by a truth value. -/
theorem select_bool {α : Type} (b : Bool) (x y : α) : Scalar.select (BitVec.ofBool b) x y = if b = true then x else y := by
  cases b <;> rfl

/-- A selection by a signed comparison of words below 2³¹ is one by a comparison of numbers. -/
theorem select_slt {α : Type} (a b : BitVec 32) (ha : a.toNat < 2 ^ 31) (hb : b.toNat < 2 ^ 31) (x y : α) :
    Scalar.select (IntOp.cmpi .slt a b) x y = if a.toNat < b.toNat then x else y := by
  have e : IntOp.cmpi .slt a b = BitVec.ofBool (a.slt b) := rfl
  rw [e, select_bool]
  refine if_congr ?_ rfl rfl
  rw [BitVec.slt_iff_toInt_lt, BitVec.toInt_eq_toNat_of_lt (by omega), BitVec.toInt_eq_toNat_of_lt (by omega)]
  omega

/-- A selection by a comparison for equality. -/
theorem select_eq {α : Type} (a b : BitVec 32) (x y : α) :
    Scalar.select (Scalar.cmpi .eq a b) x y = if a = b then x else y := by
  have e : Scalar.cmpi .eq a b = BitVec.ofBool (a == b) := rfl
  rw [e, select_bool]
  exact if_congr beq_iff_eq rfl rfl

/-- Region 0's body: the RMS norm of the block's row. -/
theorem pay0 (x : Vec Ideal S256x4096 .f32) (w : Vec Ideal S1x4096 .f32) (r : Fin 256) (j : Fin 4096) :
    k0_pay1 (F := Ideal) x w (ix2 r j) = Model.rms (fun k => x (ix2 r k)) (fun k => w (ix2 0 k)) j := by
  unfold k0_pay1 Model.rms
  pointwise

/-- The other column of a pair within a block. -/
def flip (j : Fin 512) : Fin 512 := if j.val % 2 = 0 then ⟨(j.val + 1) % 512, by omega⟩ else ⟨j.val - 1, by omega⟩

/-- Region 1's body: the projection of the row, and the two columns of a pair combined by the tables' blocks. -/
theorem pay1 (x : Vec Ideal S256x4096 .bf16) (w : Vec Ideal S512x4096 .f32) (b : Vec Ideal S1x512 .f32) (cs sn : Vec Ideal S256x512 .f32) (r : Fin 256) (j : Fin 512) :
    k1_pay1 (F := Ideal) x w b cs sn (ix2 r j)
      = ((∑ k, x (ix2 r k) * w (ix2 j k)) + b (ix2 0 j)) * cs (ix2 r j)
        + ((∑ k, x (ix2 r k) * w (ix2 (flip j) k)) + b (ix2 0 (flip j))) * sn (ix2 r j) := by
  unfold k1_pay1
  pointwise
  have e : (IntOp.andi (BitVec.ofNat 32 ↑j) 1#32).toNat = j.val % 2 := by
    show (BitVec.ofNat 32 j.val &&& 1#32).toNat = j.val % 2
    rw [BitVec.toNat_and, BitVec.toNat_ofNat, show (1#32).toNat = 1 from rfl, Nat.and_one_is_mod]
    omega
  refine congrArg₂ (fun a b : EReal => a + b) rfl (congrArg₂ (fun a b : EReal => a * b) ?_ rfl)
  refine (select_eq (IntOp.andi (BitVec.ofNat 32 ↑j) 1#32) 0#32 _ _).trans ?_
  have hc : IntOp.andi (BitVec.ofNat 32 ↑j) 1#32 = 0#32 ↔ j.val % 2 = 0 := by
    rw [← BitVec.toNat_inj, e]; rfl
  have hj := j.isLt
  have g (m : Fin 512) (hm : m = flip j) : (∑ k, x (ix2 r k) * w (ix2 m k)) + b (ix2 0 m) = (∑ k, x (ix2 r k) * w (ix2 (flip j) k)) + b (ix2 0 (flip j)) := by rw [hm]
  by_cases h : j.val % 2 = 0
  · refine (if_pos (hc.mpr h)).trans ((dif_pos (by omega)).trans (g ⟨1 + j.val, by omega⟩ (Fin.ext ?_)))
    unfold flip
    rw [if_pos h]
    show 1 + j.val = (j.val + 1) % 512
    omega
  · refine (if_neg (mt hc.mp h)).trans ((dif_neg (by omega)).trans (g ⟨j.val - 1, by omega⟩ (Fin.ext ?_)))
    unfold flip
    rw [if_neg h]

/-- Region 3's body: the residual's block and the product of the row with the weights' row. -/
theorem pay3 (w : Vec Ideal S512x4096 .f32) (a : Vec Ideal S256x4096 .bf16) (x : Vec Ideal S256x512 .f32) (r : Fin 256) (j : Fin 512) :
    k3_pay1 (F := Ideal) w a x (ix2 r j) = x (ix2 r j) + ∑ k, a (ix2 r k) * w (ix2 j k) := by
  unfold k3_pay1
  pointwise
  exact add_comm _ _

/-- Region 4's body: the RMS norm of the block's row. -/
theorem pay4 (x : Vec Ideal S256x4096 .bf16) (w : Vec Ideal S1x4096 .f32) (r : Fin 256) (j : Fin 4096) :
    k4_pay1 (F := Ideal) x w (ix2 r j) = Model.rms (fun k => x (ix2 r k)) (fun k => w (ix2 0 k)) j := by
  unfold k4_pay1 Model.rms
  pointwise

/-- Region 5's body: the gated product of the row with the blocks' rows, and zero in the columns beyond the array of weights. -/
theorem pay5 (i : grid5.Coords) (x : Vec Ideal S2048x4096 .bf16) (wa wg : Vec Ideal S1x256x4096 .f32) (r : Fin 2048) (j : Fin 256) :
    k5_pay1 (F := Ideal) i x wa wg (ix2 r j)
      = if (i 0).val * 256 + j.val < 13696 then Model.gated (fun k => x (ix2 r k)) (fun k => wa (ix3 0 j k)) (fun k => wg (ix3 0 j k)) else 0 := by
  unfold k5_pay1 Model.gated
  pointwise
  have hi : (i 0).val < 54 := (i 0).isLt
  have e : (IntOp.addi (Scalar.muli (BitVec.ofNat 32 ↑(i 0)) 256#32) (BitVec.ofNat 32 ↑j)).toNat = (i 0).val * 256 + j.val := by
    simp only [IntOp.addi, Scalar.muli, IntOp.muli, BitVec.toNat_add, BitVec.toNat_mul, BitVec.toNat_ofNat]
    omega
  rw [select_slt _ _ (by rw [e]; omega) (by decide), e]
  rfl

/-- Region 6's body: the residual's block at a row's first step, what is accumulated at a later one, and the product over the step's columns that exist. -/
theorem pay6 (i : grid6.Coords) (x : Vec Ideal S2048x1152 .bf16) (w : Vec Ideal S1024x1152 .f32) (r : Vec Ideal S2048x1024 .bf16) (y : Vec Ideal S2048x1024 .f32)
    (p : Fin 2048) (j : Fin 1024) :
    k6_pay1 (F := Ideal) i x w r y (ix2 p j)
      = (if (i 1).val = 0 then r (ix2 p j) else y (ix2 p j))
        + ∑ q : Fin 1152, if (i 1).val * 1152 + q.val < 13696 then x (ix2 p q) * w (ix2 j q) else 0 := by
  unfold k6_pay1
  pointwise
  have hi : (i 1).val < 12 := (i 1).isLt
  have e (q : Fin 1152) : (IntOp.addi (Scalar.muli (BitVec.ofNat 32 ↑(i 1)) 1152#32) (BitVec.ofNat 32 ↑q)).toNat = (i 1).val * 1152 + q.val := by
    simp only [IntOp.addi, Scalar.muli, IntOp.muli, BitVec.toNat_add, BitVec.toNat_mul, BitVec.toNat_ofNat]
    omega
  congr 1
  · rw [select_eq]
    refine if_congr ?_ rfl rfl
    rw [← BitVec.toNat_inj, BitVec.toNat_ofNat, BitVec.toNat_ofNat]
    omega
  · refine Finset.sum_congr rfl fun q _ => ?_
    rw [select_slt _ _ (by rw [e]; omega) (by decide), e]
    rfl

end Cert.KernelIdeal.Pay

end
-- ==== Proof.KernelIdealRms.lean ====
/- Region 0, the first RMS norm: what one point of the grid leaves in the output's buffer, and the body's obligation. -/
module

public import proofs.«01_k».proof.Proof.Region
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

noncomputable section

namespace Cert.KernelIdeal.Rms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Region

variable {F : FTy → Type} [FloatOps F] [Named F]

local notation "𝕄" => MT nD τ sig Unit (Elt F) ℕ (UU nD τ sig (Fin 7)) ℕ

set_option maxHeartbeats 1000000 in
/-- One run of the body on whole buffers: the output's holds the body's value of what the buffers held, the inputs' are as they were. -/
theorem kernelRun (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .bf16) (harg3 : arg3.IsWhole)
    (x0 : Vec F S256x4096 .f32) (x1 : Vec F S1x4096 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__rms_body i arg1 harg1 arg2 harg2 arg3 harg3) K := by
  simp only [cc0__rms_body_eq_skeleton]; unfold cc0__rms_body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_full, View.readAt_full, View.readAt_full, hf0, hf1]

/-- What the body may leave at a point: the inputs' buffers as found, the output's at the body's value of the blocks fetched. -/
def after (W : Valuation τ sig (Elt F)) (w : Fin cfg0.W) (t : Fin cfg0.N) (Y X : (cfg0.win w).block.Idx → Elt F (cfg0.win w).elt) : Prop :=
  match w with
  | ⟨0, _⟩ => X = Y
  | ⟨1, _⟩ => X = Y
  | ⟨2, _⟩ => ∃ d0 d1, X = k0_pay1 (F := F) (fet cfg0 W 0 t d0) (fet cfg0 W 1 t d1)

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- What window 0's buffer may hold at a point. -/
theorem finds0 (W : Valuation τ sig (Elt F)) (c : Dev nD) (t : Fin cfg0.N) (Y)
    (h : (mkRD (Ix := Unit) (Name := ℕ) (U := UU nD τ sig (Fin 7)) (Lvl := ℕ) cfg0 c W (after W)).Finds 0 t Y) : ∃ d, Y = fet cfg0 W 0 t d :=
  finds_fet cfg0 c W (after W) 0 rfl (.inr fun _ _ _ => rfl) (fun _ _ _ h => h) t Y h

/-- What window 1's buffer may hold at a point. -/
theorem finds1 (W : Valuation τ sig (Elt F)) (c : Dev nD) (t : Fin cfg0.N) (Y)
    (h : (mkRD (Ix := Unit) (Name := ℕ) (U := UU nD τ sig (Fin 7)) (Lvl := ℕ) cfg0 c W (after W)).Finds 1 t Y) : ∃ d, Y = fet cfg0 W 1 t d :=
  finds_fet cfg0 c W (after W) 1 rfl (.inr fun _ _ _ => rfl) (fun _ _ _ h => h) t Y h

/-- The body's obligation at every point. -/
theorem body (W : Valuation τ sig (Elt F)) (c : Dev nD) :
    (mkRD (Ix := Unit) (Name := ℕ) (U := UU nD τ sig (Fin 7)) (Lvl := ℕ) cfg0 c W (after W)).BodyObligation (defs₀ (F := F)) Variants.none () Set.univ := by
  intro t Y hY
  obtain ⟨d0, h0⟩ := finds0 W c t (Y 0) (hY 0)
  obtain ⟨d1, h1⟩ := finds1 W c t (Y 1) (hY 1)
  rw [bigSep_W0, bigSep_W0, defs₀_row]
  rw [show (mkRD (Ix := Unit) (Name := ℕ) (U := UU nD τ sig (Fin 7)) (Lvl := ℕ) cfg0 c W (after W)).Φ t.succ
    = (mkRD (Ix := Unit) (Name := ℕ) (U := UU nD τ sig (Fin 7)) (Lvl := ℕ) cfg0 c W (after W)).Φ t.castSucc from rfl]
  rw [show (mkRD (Ix := Unit) (Name := ℕ) (U := UU nD τ sig (Fin 7)) (Lvl := ℕ) cfg0 c W (after W)).owesAt () t.succ
    = (mkRD (Ix := Unit) (Name := ℕ) (U := UU nD τ sig (Fin 7)) (Lvl := ℕ) cfg0 c W (after W)).owesAt () t.castSucc from rfl]
  unfold bodyAt0
  iintro ⟨HΦ, Ho, H0, H1, H2⟩
  iapply (kernelRun c (grid0.coords t) _ _ _ _ _ _ (Y 0) (Y 1) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  iexists _; isplitr; swap; · iexact H2
  ipureintro
  exact ⟨d0, d1, by rw [← h0, ← h1]⟩

end Cert.KernelIdeal.Rms

end
-- ==== Proof.KernelIdealQkv.lean ====
/- Region 1, the projection to queries, keys and values with the rotary embedding: what one point of the grid leaves in the output's buffer, and the body's obligation. -/
module

public import proofs.«01_k».proof.Proof.Region
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Region

variable {F : FTy → Type} [FloatOps F] [Named F]

local notation "𝕄" => MT nD τ sig Unit (Elt F) ℕ (UU nD τ sig (Fin 7)) ℕ

set_option maxHeartbeats 1000000 in
/-- One run of the body on whole buffers: the output's holds the body's value of what the buffers held, the inputs' are as they were. -/
theorem kernelRun (c : Dev nD) (i : grid1.Coords) (arg2 : Memref sig .tc .vmem S256x4096 .bf16) (harg2 : arg2.IsWhole) (arg3 : Memref sig .tc .vmem S512x4096 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole)
    (x0 : Vec F S256x4096 .bf16) (x1 : Vec F S512x4096 .f32) (x2 : Vec F S1x512 .f32) (x3 : Vec F S256x512 .f32) (x4 : Vec F S256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay1 x0 x1 x2 x3 x4)) -∗ K ⟨⟩))
      ⊢ wp frame (wpE (defs₀ (F := F)) Variants.none c none) E (cc1__qkv_body i arg2 harg2 arg3 harg3 arg4 harg4 arg5 harg5 arg6 harg6 arg7 harg7) K := by
  simp only [cc1__qkv_body_eq_skeleton]; unfold cc1__qkv_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  rw [View.read_writes_full, View.readAt_full, View.readAt_full, View.readAt_full, View.readAt_full, View.readAt_full, hf0, hf1, hf2, hf3, hf4]

/-- What the body may leave at a point: the inputs' buffers as found, the output's at the body's value of the blocks fetched. -/
def after (W : Valuation τ sig (Elt F)) (w : Fin cfg1.W) (t : Fin cfg1.N) (Y X : (cfg1.win w).block.Idx → Elt F (cfg1.win w).elt) : Prop :=
  match w with
  | ⟨0, _⟩ => X = Y
  | ⟨1, _⟩ => X = Y
  | ⟨2, _⟩ => X = Y
  | ⟨3, _⟩ => X = Y
  | ⟨4, _⟩ => X = Y
  | ⟨5, _⟩ => ∃ d0 d1 d2 d3 d4, X = k1_pay1 (F := F) (fet cfg1 W 0 t d0) (fet cfg1 W 1 t d1) (fet cfg1 W 2 t d2) (fet cfg1 W 3 t d3) (fet cfg1 W 4 t d4)

/-- The body table's row at point `t`'s slots. -/
theorem defs₀_row (t : Fin cfg1.N) :
    defs₀ (F := F) .tc cfg1.body (cfg1.bodyArgs t (cfg1.slots t)) = bodyAt1 t := by
  unfold defs₀; rw [Defs.onTc_tc]

/-- What window 0's buffer may hold at a point. -/
theorem finds0 (W : Valuation τ sig (Elt F)) (c : Dev nD) (t : Fin cfg1.N) (Y)
    (h : (mkRD (Ix := Unit) (Name := ℕ) (U := UU nD τ sig (Fin 7)) (Lvl := ℕ) cfg1 c W (after W)).Finds 0 t Y) : ∃ d, Y = fet cfg1 W 0 t d :=
  finds_fet cfg1 c W (after W) 0 rfl (.inr fun _ _ _ => rfl) (fun _ _ _ h => h) t Y h

/-- What window 1's buffer may hold at a point. -/
theorem finds1 (W : Valuation τ sig (Elt F)) (c : Dev nD) (t : Fin cfg1.N) (Y)
    (h : (mkRD (Ix := Unit) (Name := ℕ) (U := UU nD τ sig (Fin 7)) (Lvl := ℕ) cfg1 c W (after W)).Finds 1 t Y) : ∃ d, Y = fet cfg1 W 1 t d :=
  finds_fet cfg1 c W (after W) 1 rfl (.inr fun _ _ _ => rfl) (fun _ _ _ h => h) t Y h

/-- What window 2's buffer may hold at a point. -/
theorem finds2 (W : Valuation τ sig (Elt F)) (c : Dev nD) (t : Fin cfg1.N) (Y)
    (h : (mkRD (Ix := Unit) (Name := ℕ) (U := UU nD τ sig (Fin 7)) (Lvl := ℕ) cfg1 c W (after W)).Finds 2 t Y) : ∃ d, Y = fet cfg1 W 2 t d :=
  finds_fet cfg1 c W (after W) 2 rfl (.inr fun _ _ _ => rfl) (fun _ _ _ h => h) t Y h

/-- What window 3's buffer may hold at a point. -/
theorem finds3 (W : Valuation τ sig (Elt F)) (c : Dev nD) (t : Fin cfg1.N) (Y)
    (h : (mkRD (Ix := Unit) (Name := ℕ) (U := UU nD τ sig (Fin 7)) (Lvl := ℕ) cfg1 c W (after W)).Finds 3 t Y) : ∃ d, Y = fet cfg1 W 3 t d :=
  finds_fet cfg1 c W (after W) 3 rfl (.inr fun _ _ _ => rfl) (fun _ _ _ h => h) t Y h

/-- What window 4's buffer may hold at a point. -/
theorem finds4 (W : Valuation τ sig (Elt F)) (c : Dev nD) (t : Fin cfg1.N) (Y)
    (h : (mkRD (Ix := Unit) (Name := ℕ) (U := UU nD τ sig (Fin 7)) (Lvl := ℕ) cfg1 c W (after W)).Finds 4 t Y) : ∃ d, Y = fet cfg1 W 4 t d :=
  finds_fet cfg1 c W (after W) 4 rfl (.inr fun _ _ _ => rfl) (fun _ _ _ h => h) t Y h

/-- The body's obligation at every point. -/
theorem body (W : Valuation τ sig (Elt F)) (c : Dev nD) :
    (mkRD (Ix := Unit) (Name := ℕ) (U := UU nD τ sig (Fin 7)) (Lvl := ℕ) cfg1 c W (after W)).BodyObligation (defs₀ (F := F)) Variants.none () Set.univ := by
  intro t Y hY
  obtain ⟨d0, h0⟩ := finds0 W c t (Y 0) (hY 0)
  obtain ⟨d1, h1⟩ := finds1 W c t (Y 1) (hY 1)
  obtain ⟨d2, h2⟩ := finds2 W c t (Y 2) (hY 2)
  obtain ⟨d3, h3⟩ := finds3 W c t (Y 3) (hY 3)
  obtain ⟨d4, h4⟩ := finds4 W c t (Y 4) (hY 4)
  rw [bigSep_W1, bigSep_W1, defs₀_row]
  rw [show (mkRD (Ix := Unit) (Name := ℕ) (U := UU nD τ sig (Fin 7)) (Lvl := ℕ) cfg1 c W (after W)).Φ t.succ
    = (mkRD (Ix := Unit) (Name := ℕ) (U := UU nD τ sig (Fin 7)) (Lvl := ℕ) cfg1 c W (after W)).Φ t.castSucc from rfl]
  rw [show (mkRD (Ix := Unit) (Name := ℕ) (U := UU nD τ sig (Fin 7)) (Lvl := ℕ) cfg1 c W (after W)).owesAt () t.succ
    = (mkRD (Ix := Unit) (Name := ℕ) (U := UU nD τ sig (Fin 7)) (Lvl := ℕ) cfg1 c W (after W)).owesAt () t.castSucc from rfl]
  unfold bodyAt1
  iintro ⟨HΦ, Ho, H0, H1, H2, H3, H4, H5⟩
  iapply (kernelRun c (grid1.coords t) _ _ _ _ _ _ _ _ _ _ _ _ (Y 0) (Y 1) (Y 2) (Y 3) (Y 4) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  iexists _; isplitr; swap; · iexact H5
  ipureintro
  exact ⟨d0, d1, d2, d3, d4, by rw [← h0, ← h1, ← h2, ← h3, ← h4]⟩

end Cert.KernelIdeal.Qkv

end
-- ==== Proof.KernelIdealAttn.lean ====
/- Region 2, the attention: what one point of the grid leaves in the output's buffer, and the body's obligation. The body's loop over the blocks of keys carries a row's largest score, the sum of the weights and the weighted sum of the values. -/
module

public import proofs.«01_k».proof.Proof.Region
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Region

variable {F : FTy → Type} [FloatOps F] [Named F]

local notation "𝕄" => MT nD τ sig Unit (Elt F) ℕ (UU nD τ sig (Fin 7)) ℕ

/-- What the loop carries: each row's largest score so far, sum of weights, weighted sum of values. -/
abbrev Car (F : FTy → Type) [FloatOps F] : Type := FVec F S256x1 .f32 × FVec F S256x1 .f32 × FVec F S256x128 .f32

/-- The block of 256 rows that trip `j` reads. -/
def rows (i : grid2.Coords) (j : Fin (k2_t1_loop i).trips) (x : Vec F S2048x128 .bf16) : Vec F S256x128 .bf16 :=
  View.ld x (Rect.unit (s := S2048x128) (k2_off1 i j) S256x128.size (k2_off1_inb i j))

/-- One trip. -/
def step (i : grid2.Coords) (q : Vec F S256x128 .bf16) (kk vv : Vec F S2048x128 .bf16) (j : Fin (k2_t1_loop i).trips) (a : Car F) : Car F :=
  (k2_pay6 i q j a.1 (rows i j kk), k2_pay9 i q j a.1 a.2.1 (rows i j kk), k2_pay10 i q j a.1 a.2.2 (rows i j kk) (rows i j vv))

/-- What is carried before trip `n`. -/
def state (i : grid2.Coords) (q : Vec F S256x128 .bf16) (kk vv : Vec F S2048x128 .bf16) : ℕ → Car F
  | 0 => (k2_pay2, k2_pay3, k2_pay4)
  | n + 1 => if h : n < (k2_t1_loop i).trips then step i q kk vv ⟨n, h⟩ (state i q kk vv n) else state i q kk vv n

theorem state_succ (i : grid2.Coords) (q : Vec F S256x128 .bf16) (kk vv : Vec F S2048x128 .bf16) (j : Fin (k2_t1_loop i).trips) :
    state i q kk vv (j.val + 1) = step i q kk vv j (state i q kk vv j.val) := by
  conv_lhs => unfold state
  exact dif_pos j.isLt

/-- A point of the grid in head 0. -/
def head0 (n : Fin 8) : grid2.Coords := fun a => match a with
  | ⟨0, _⟩ => (⟨0, by decide⟩ : Fin 32)
  | ⟨1, _⟩ => n

/-- The loop makes one trip more than the number of the block of queries. -/
theorem trips1 (i : grid2.Coords) : (k2_t1_loop i).trips = (i 1).val + 1 :=
  (by decide +kernel : ∀ n : Fin 8, (k2_t1_loop (head0 n)).trips = n.val + 1) (i 1)

/-- The second loop makes no trip. -/
theorem trips2 (i : grid2.Coords) : (k2_t2_loop i).trips = 0 :=
  (by decide +kernel : ∀ n : Fin 8, (k2_t2_loop (head0 n)).trips = 0) (i 1)

/-- What the body stores at a point. -/
def out (i : grid2.Coords) (q : Vec F S256x128 .bf16) (kk vv : Vec F S2048x128 .bf16) : Vec F S256x128 .bf16 :=
  k2_pay17 (state i q kk vv (k2_t1_loop i).trips).2.1 (state i q kk vv (k2_t1_loop i).trips).2.2

/-- What a trip needs of memory: the keys and the values. -/
abbrev Mem (c : Dev nD) (arg3 : Memref sig .tc .vmem S2048x128 .bf16) (harg3 : arg3.IsWhole) (arg4 : Memref sig .tc .vmem S2048x128 .bf16) (harg4 : arg4.IsWhole)
    (kk vv : Vec F S2048x128 .bf16) : sProp 𝕄 :=
  iprop((arg3.view.loc (c : Thread nD τ) ↦[arg3.view.set]{fullShare} harg3.unread kk) ∗ (arg4.view.loc (c : Thread nD τ) ↦[arg4.view.set]{fullShare} harg4.unread vv))

set_option maxHeartbeats 1000000 in
/-- One trip of the loop yields `step`. -/
theorem trip (c : Dev nD) (i : grid2.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (q : Vec F S256x128 .bf16) (kk vv : Vec F S2048x128 .bf16) (j : Fin (k2_t1_loop i).trips) (E : Set ℕ) (a : Car F) :
    Mem c arg3 harg3 arg4 harg4 kk vv ⊢ wp frame (wpE (defs₀ (F := F)) Variants.none (c : Thread nD τ) none) E (k2_t1_body (F := F) i arg2 harg2 arg3 harg3 arg4 harg4 arg5 harg5 q j a)
      (fun y => iprop(⌜y = step i q kk vv j a⌝ ∗ Mem c arg3 harg3 arg4 harg4 kk vv)) := by
  obtain ⟨a7, a8, a9⟩ := a
  unfold k2_t1_body
  iintro ⟨H3, H4⟩
  sl_exec
  sl_step
  isplitr
  · ipureintro
    unfold step rows
    simp only [View.readAt_eq_ld, harg3.read_unread, harg4.read_unread]
  isplitl [H3]; · iexact H3
  iexact H4

/-- The loop by its invariant: what is carried before trip `n` is `state n`. -/
@[sl_loop, instance_reducible] def loopInv (c : Dev nD) (E : Set ℕ) (i : grid2.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (q : Vec F S256x128 .bf16) (kk vv : Vec F S2048x128 .bf16) :
    LoopInv (M := 𝕄) frame (wpE (defs₀ (F := F)) Variants.none (c : Thread nD τ) none) E
      (k2_t1_loop i).lb (k2_t1_loop i).ub (k2_t1_loop i).st (k2_t1_ok i) (k2_pay2 (F := F), k2_pay3 (F := F), k2_pay4 (F := F)) (k2_t1_body (F := F) i arg2 harg2 arg3 harg3 arg4 harg4 arg5 harg5 q) where
  inv n acc := iprop(Mem c arg3 harg3 arg4 harg4 kk vv ∗ ⌜acc = state i q kk vv n⌝)
  step j acc := by
    iintro ⟨H, %h⟩
    subst h
    iapply (wp_wand_r frame (wpE (defs₀ (F := F)) Variants.none (c : Thread nD τ) none) E)
    isplitl [H]
    · iapply (trip c i arg2 harg2 arg3 harg3 arg4 harg4 arg5 harg5 q kk vv j E (state i q kk vv j.val)); iexact H
    iintro %y ⟨%hy, H⟩
    isplitl [H]; · iexact H
    ipureintro
    rw [hy, ← state_succ]

set_option maxHeartbeats 1000000 in
/-- One run of the body on whole buffers: the output's holds the body's value of what the buffers held, the inputs' are as they were. -/
theorem kernelRun (c : Dev nD) (i : grid2.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole)
    (x0 : Vec F S256x128 .bf16) (x1 x2 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out i x0 x1 x2)) -∗ K ⟨⟩))
      ⊢ wp frame (wpE (defs₀ (F := F)) Variants.none c none) E (cc2__attn_body i arg2 harg2 arg3 harg3 arg4 harg4 arg5 harg5) K := by
  have htr := trips2 i
  simp only [cc2__attn_body_eq_skeleton]; unfold cc2__attn_body_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_full, View.readAt_full, hf0]
  rfl

/-- What the body may leave at a point: the inputs' buffers as found, the output's at the body's value of the blocks fetched. -/
def after (W : Valuation τ sig (Elt F)) (w : Fin cfg2.W) (t : Fin cfg2.N) (Y X : (cfg2.win w).block.Idx → Elt F (cfg2.win w).elt) : Prop :=
  match w with
  | ⟨0, _⟩ => X = Y
  | ⟨1, _⟩ => X = Y
  | ⟨2, _⟩ => X = Y
  | ⟨3, _⟩ => ∃ d0 d1 d2, X = out (F := F) (grid2.coords t) (fet cfg2 W 0 t d0) (fet cfg2 W 1 t d1) (fet cfg2 W 2 t d2)

/-- The body table's row at point `t`'s slots. -/
theorem defs₀_row (t : Fin cfg2.N) :
    defs₀ (F := F) .tc cfg2.body (cfg2.bodyArgs t (cfg2.slots t)) = bodyAt2 t := by
  unfold defs₀; rw [Defs.onTc_tc]

/-- What window 0's buffer may hold at a point. -/
theorem finds0 (W : Valuation τ sig (Elt F)) (c : Dev nD) (t : Fin cfg2.N) (Y)
    (h : (mkRD (Ix := Unit) (Name := ℕ) (U := UU nD τ sig (Fin 7)) (Lvl := ℕ) cfg2 c W (after W)).Finds 0 t Y) : ∃ d, Y = fet cfg2 W 0 t d :=
  finds_fet cfg2 c W (after W) 0 rfl (.inr fun _ _ _ => rfl) (fun _ _ _ h => h) t Y h

/-- What window 1's buffer may hold at a point. -/
theorem finds1 (W : Valuation τ sig (Elt F)) (c : Dev nD) (t : Fin cfg2.N) (Y)
    (h : (mkRD (Ix := Unit) (Name := ℕ) (U := UU nD τ sig (Fin 7)) (Lvl := ℕ) cfg2 c W (after W)).Finds 1 t Y) : ∃ d, Y = fet cfg2 W 1 t d :=
  finds_fet cfg2 c W (after W) 1 rfl (.inr fun _ _ _ => rfl) (fun _ _ _ h => h) t Y h

/-- What window 2's buffer may hold at a point. -/
theorem finds2 (W : Valuation τ sig (Elt F)) (c : Dev nD) (t : Fin cfg2.N) (Y)
    (h : (mkRD (Ix := Unit) (Name := ℕ) (U := UU nD τ sig (Fin 7)) (Lvl := ℕ) cfg2 c W (after W)).Finds 2 t Y) : ∃ d, Y = fet cfg2 W 2 t d :=
  finds_fet cfg2 c W (after W) 2 rfl (.inr fun _ _ _ => rfl) (fun _ _ _ h => h) t Y h

/-- The body's obligation at every point. -/
theorem body (W : Valuation τ sig (Elt F)) (c : Dev nD) :
    (mkRD (Ix := Unit) (Name := ℕ) (U := UU nD τ sig (Fin 7)) (Lvl := ℕ) cfg2 c W (after W)).BodyObligation (defs₀ (F := F)) Variants.none () Set.univ := by
  intro t Y hY
  obtain ⟨d0, h0⟩ := finds0 W c t (Y 0) (hY 0)
  obtain ⟨d1, h1⟩ := finds1 W c t (Y 1) (hY 1)
  obtain ⟨d2, h2⟩ := finds2 W c t (Y 2) (hY 2)
  rw [bigSep_W2, bigSep_W2, defs₀_row]
  rw [show (mkRD (Ix := Unit) (Name := ℕ) (U := UU nD τ sig (Fin 7)) (Lvl := ℕ) cfg2 c W (after W)).Φ t.succ
    = (mkRD (Ix := Unit) (Name := ℕ) (U := UU nD τ sig (Fin 7)) (Lvl := ℕ) cfg2 c W (after W)).Φ t.castSucc from rfl]
  rw [show (mkRD (Ix := Unit) (Name := ℕ) (U := UU nD τ sig (Fin 7)) (Lvl := ℕ) cfg2 c W (after W)).owesAt () t.succ
    = (mkRD (Ix := Unit) (Name := ℕ) (U := UU nD τ sig (Fin 7)) (Lvl := ℕ) cfg2 c W (after W)).owesAt () t.castSucc from rfl]
  unfold bodyAt2
  iintro ⟨HΦ, Ho, H0, H1, H2, H3⟩
  iapply (kernelRun c (grid2.coords t) _ _ _ _ _ _ _ _ (Y 0) (Y 1) (Y 2) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  iexists _; isplitr; swap; · iexact H3
  ipureintro
  exact ⟨d0, d1, d2, by rw [← h0, ← h1, ← h2]⟩

end Cert.KernelIdeal.Attn

end
-- ==== Proof.KernelIdealDense.lean ====
/- Region 3, the attention's output projection added to the residual: what one point of the grid leaves in the output's buffer, and the body's obligation. -/
module

public import proofs.«01_k».proof.Proof.Region
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Region

variable {F : FTy → Type} [FloatOps F] [Named F]

local notation "𝕄" => MT nD τ sig Unit (Elt F) ℕ (UU nD τ sig (Fin 7)) ℕ

set_option maxHeartbeats 1000000 in
/-- One run of the body on whole buffers: the output's holds the body's value of what the buffers held, the inputs' are as they were. -/
theorem kernelRun (c : Dev nD) (i : grid3.Coords) (arg2 : Memref sig .tc .vmem S256x4096 .bf16) (harg2 : arg2.IsWhole) (arg3 : Memref sig .tc .vmem S512x4096 .f32) (harg3 : arg3.IsWhole) (arg4 : Memref sig .tc .vmem S256x512 .f32) (harg4 : arg4.IsWhole) (arg5 : Memref sig .tc .vmem S256x512 .bf16) (harg5 : arg5.IsWhole)
    (x0 : Vec F S256x4096 .bf16) (x1 : Vec F S512x4096 .f32) (x2 : Vec F S256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k3_pay1 x1 x0 x2)) -∗ K ⟨⟩))
      ⊢ wp frame (wpE (defs₀ (F := F)) Variants.none c none) E (cc3__dense_body i arg2 harg2 arg3 harg3 arg4 harg4 arg5 harg5) K := by
  simp only [cc3__dense_body_eq_skeleton]; unfold cc3__dense_body_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_full, View.readAt_full, View.readAt_full, View.readAt_full, hf0, hf1, hf2]

/-- What the body may leave at a point: the inputs' buffers as found, the output's at the body's value of the blocks fetched. -/
def after (W : Valuation τ sig (Elt F)) (w : Fin cfg3.W) (t : Fin cfg3.N) (Y X : (cfg3.win w).block.Idx → Elt F (cfg3.win w).elt) : Prop :=
  match w with
  | ⟨0, _⟩ => X = Y
  | ⟨1, _⟩ => X = Y
  | ⟨2, _⟩ => X = Y
  | ⟨3, _⟩ => ∃ d0 d1 d2, X = k3_pay1 (F := F) (fet cfg3 W 1 t d1) (fet cfg3 W 0 t d0) (fet cfg3 W 2 t d2)

/-- The body table's row at point `t`'s slots. -/
theorem defs₀_row (t : Fin cfg3.N) :
    defs₀ (F := F) .tc cfg3.body (cfg3.bodyArgs t (cfg3.slots t)) = bodyAt3 t := by
  unfold defs₀; rw [Defs.onTc_tc]

/-- What window 0's buffer may hold at a point. -/
theorem finds0 (W : Valuation τ sig (Elt F)) (c : Dev nD) (t : Fin cfg3.N) (Y)
    (h : (mkRD (Ix := Unit) (Name := ℕ) (U := UU nD τ sig (Fin 7)) (Lvl := ℕ) cfg3 c W (after W)).Finds 0 t Y) : ∃ d, Y = fet cfg3 W 0 t d :=
  finds_fet cfg3 c W (after W) 0 rfl (.inr fun _ _ _ => rfl) (fun _ _ _ h => h) t Y h

/-- What window 1's buffer may hold at a point. -/
theorem finds1 (W : Valuation τ sig (Elt F)) (c : Dev nD) (t : Fin cfg3.N) (Y)
    (h : (mkRD (Ix := Unit) (Name := ℕ) (U := UU nD τ sig (Fin 7)) (Lvl := ℕ) cfg3 c W (after W)).Finds 1 t Y) : ∃ d, Y = fet cfg3 W 1 t d :=
  finds_fet cfg3 c W (after W) 1 rfl (.inr fun _ _ _ => rfl) (fun _ _ _ h => h) t Y h

/-- What window 2's buffer may hold at a point. -/
theorem finds2 (W : Valuation τ sig (Elt F)) (c : Dev nD) (t : Fin cfg3.N) (Y)
    (h : (mkRD (Ix := Unit) (Name := ℕ) (U := UU nD τ sig (Fin 7)) (Lvl := ℕ) cfg3 c W (after W)).Finds 2 t Y) : ∃ d, Y = fet cfg3 W 2 t d :=
  finds_fet cfg3 c W (after W) 2 rfl (.inr fun _ _ _ => rfl) (fun _ _ _ h => h) t Y h

/-- The body's obligation at every point. -/
theorem body (W : Valuation τ sig (Elt F)) (c : Dev nD) :
    (mkRD (Ix := Unit) (Name := ℕ) (U := UU nD τ sig (Fin 7)) (Lvl := ℕ) cfg3 c W (after W)).BodyObligation (defs₀ (F := F)) Variants.none () Set.univ := by
  intro t Y hY
  obtain ⟨d0, h0⟩ := finds0 W c t (Y 0) (hY 0)
  obtain ⟨d1, h1⟩ := finds1 W c t (Y 1) (hY 1)
  obtain ⟨d2, h2⟩ := finds2 W c t (Y 2) (hY 2)
  rw [bigSep_W3, bigSep_W3, defs₀_row]
  rw [show (mkRD (Ix := Unit) (Name := ℕ) (U := UU nD τ sig (Fin 7)) (Lvl := ℕ) cfg3 c W (after W)).Φ t.succ
    = (mkRD (Ix := Unit) (Name := ℕ) (U := UU nD τ sig (Fin 7)) (Lvl := ℕ) cfg3 c W (after W)).Φ t.castSucc from rfl]
  rw [show (mkRD (Ix := Unit) (Name := ℕ) (U := UU nD τ sig (Fin 7)) (Lvl := ℕ) cfg3 c W (after W)).owesAt () t.succ
    = (mkRD (Ix := Unit) (Name := ℕ) (U := UU nD τ sig (Fin 7)) (Lvl := ℕ) cfg3 c W (after W)).owesAt () t.castSucc from rfl]
  unfold bodyAt3
  iintro ⟨HΦ, Ho, H0, H1, H2, H3⟩
  iapply (kernelRun c (grid3.coords t) _ _ _ _ _ _ _ _ (Y 0) (Y 1) (Y 2) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  iexists _; isplitr; swap; · iexact H3
  ipureintro
  exact ⟨d0, d1, d2, by rw [← h0, ← h1, ← h2]⟩

end Cert.KernelIdeal.Dense

end
-- ==== Proof.KernelIdealRms2.lean ====
/- Region 4, the second RMS norm: what one point of the grid leaves in the output's buffer, and the body's obligation. -/
module

public import proofs.«01_k».proof.Proof.Region
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

noncomputable section

namespace Cert.KernelIdeal.Rms2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Region

variable {F : FTy → Type} [FloatOps F] [Named F]

local notation "𝕄" => MT nD τ sig Unit (Elt F) ℕ (UU nD τ sig (Fin 7)) ℕ

set_option maxHeartbeats 1000000 in
/-- One run of the body on whole buffers: the output's holds the body's value of what the buffers held, the inputs' are as they were. -/
theorem kernelRun (c : Dev nD) (i : grid4.Coords) (arg1 : Memref sig .tc .vmem S256x4096 .bf16) (harg1 : arg1.IsWhole) (arg2 : Memref sig .tc .vmem S1x4096 .f32) (harg2 : arg2.IsWhole) (arg3 : Memref sig .tc .vmem S256x4096 .bf16) (harg3 : arg3.IsWhole)
    (x0 : Vec F S256x4096 .bf16) (x1 : Vec F S1x4096 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k4_pay1 x0 x1)) -∗ K ⟨⟩))
      ⊢ wp frame (wpE (defs₀ (F := F)) Variants.none c none) E (cc4__rms_body i arg1 harg1 arg2 harg2 arg3 harg3) K := by
  simp only [cc4__rms_body_eq_skeleton]; unfold cc4__rms_body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_full, View.readAt_full, View.readAt_full, hf0, hf1]

/-- What the body may leave at a point: the inputs' buffers as found, the output's at the body's value of the blocks fetched. -/
def after (W : Valuation τ sig (Elt F)) (w : Fin cfg4.W) (t : Fin cfg4.N) (Y X : (cfg4.win w).block.Idx → Elt F (cfg4.win w).elt) : Prop :=
  match w with
  | ⟨0, _⟩ => X = Y
  | ⟨1, _⟩ => X = Y
  | ⟨2, _⟩ => ∃ d0 d1, X = k4_pay1 (F := F) (fet cfg4 W 0 t d0) (fet cfg4 W 1 t d1)

/-- The body table's row at point `t`'s slots. -/
theorem defs₀_row (t : Fin cfg4.N) :
    defs₀ (F := F) .tc cfg4.body (cfg4.bodyArgs t (cfg4.slots t)) = bodyAt4 t := by
  unfold defs₀; rw [Defs.onTc_tc]

/-- What window 0's buffer may hold at a point. -/
theorem finds0 (W : Valuation τ sig (Elt F)) (c : Dev nD) (t : Fin cfg4.N) (Y)
    (h : (mkRD (Ix := Unit) (Name := ℕ) (U := UU nD τ sig (Fin 7)) (Lvl := ℕ) cfg4 c W (after W)).Finds 0 t Y) : ∃ d, Y = fet cfg4 W 0 t d :=
  finds_fet cfg4 c W (after W) 0 rfl (.inr fun _ _ _ => rfl) (fun _ _ _ h => h) t Y h

/-- What window 1's buffer may hold at a point. -/
theorem finds1 (W : Valuation τ sig (Elt F)) (c : Dev nD) (t : Fin cfg4.N) (Y)
    (h : (mkRD (Ix := Unit) (Name := ℕ) (U := UU nD τ sig (Fin 7)) (Lvl := ℕ) cfg4 c W (after W)).Finds 1 t Y) : ∃ d, Y = fet cfg4 W 1 t d :=
  finds_fet cfg4 c W (after W) 1 rfl (.inr fun _ _ _ => rfl) (fun _ _ _ h => h) t Y h

/-- The body's obligation at every point. -/
theorem body (W : Valuation τ sig (Elt F)) (c : Dev nD) :
    (mkRD (Ix := Unit) (Name := ℕ) (U := UU nD τ sig (Fin 7)) (Lvl := ℕ) cfg4 c W (after W)).BodyObligation (defs₀ (F := F)) Variants.none () Set.univ := by
  intro t Y hY
  obtain ⟨d0, h0⟩ := finds0 W c t (Y 0) (hY 0)
  obtain ⟨d1, h1⟩ := finds1 W c t (Y 1) (hY 1)
  rw [bigSep_W4, bigSep_W4, defs₀_row]
  rw [show (mkRD (Ix := Unit) (Name := ℕ) (U := UU nD τ sig (Fin 7)) (Lvl := ℕ) cfg4 c W (after W)).Φ t.succ
    = (mkRD (Ix := Unit) (Name := ℕ) (U := UU nD τ sig (Fin 7)) (Lvl := ℕ) cfg4 c W (after W)).Φ t.castSucc from rfl]
  rw [show (mkRD (Ix := Unit) (Name := ℕ) (U := UU nD τ sig (Fin 7)) (Lvl := ℕ) cfg4 c W (after W)).owesAt () t.succ
    = (mkRD (Ix := Unit) (Name := ℕ) (U := UU nD τ sig (Fin 7)) (Lvl := ℕ) cfg4 c W (after W)).owesAt () t.castSucc from rfl]
  unfold bodyAt4
  iintro ⟨HΦ, Ho, H0, H1, H2⟩
  iapply (kernelRun c (grid4.coords t) _ _ _ _ _ _ (Y 0) (Y 1) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  iexists _; isplitr; swap; · iexact H2
  ipureintro
  exact ⟨d0, d1, by rw [← h0, ← h1]⟩

end Cert.KernelIdeal.Rms2

end
-- ==== Proof.KernelIdealUp.lean ====
/- Region 5, the first half of the multilayer perceptron: what one point of the grid leaves in the output's buffer, and the body's obligation. -/
module

public import proofs.«01_k».proof.Proof.Region
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Region

variable {F : FTy → Type} [FloatOps F] [Named F]

local notation "𝕄" => MT nD τ sig Unit (Elt F) ℕ (UU nD τ sig (Fin 7)) ℕ

set_option maxHeartbeats 1000000 in
/-- One run of the body on whole buffers: the output's holds the body's value of what the buffers held, the inputs' are as they were. -/
theorem kernelRun (c : Dev nD) (i : grid5.Coords) (arg1 : Memref sig .tc .vmem S2048x4096 .bf16) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S2048x256 .bf16) (harg4 : arg4.IsWhole)
    (x0 : Vec F S2048x4096 .bf16) (x1 : Vec F S1x256x4096 .f32) (x2 : Vec F S1x256x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k5_pay1 i x0 x1 x2)) -∗ K ⟨⟩))
      ⊢ wp frame (wpE (defs₀ (F := F)) Variants.none c none) E (cc5__mlp_up_body i arg1 harg1 arg2 harg2 arg3 harg3 arg4 harg4) K := by
  simp only [cc5__mlp_up_body_eq_skeleton]; unfold cc5__mlp_up_body_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_full, View.readAt_full, View.readAt_full, View.readAt_full, hf0, hf1, hf2]

/-- What the body may leave at a point: the inputs' buffers as found, the output's at the body's value of the blocks fetched. -/
def after (W : Valuation τ sig (Elt F)) (w : Fin cfg5.W) (t : Fin cfg5.N) (Y X : (cfg5.win w).block.Idx → Elt F (cfg5.win w).elt) : Prop :=
  match w with
  | ⟨0, _⟩ => X = Y
  | ⟨1, _⟩ => X = Y
  | ⟨2, _⟩ => X = Y
  | ⟨3, _⟩ => ∃ d0 d1 d2, X = k5_pay1 (F := F) (grid5.coords t) (fet cfg5 W 0 t d0) (fet cfg5 W 1 t d1) (fet cfg5 W 2 t d2)

/-- The body table's row at point `t`'s slots. -/
theorem defs₀_row (t : Fin cfg5.N) :
    defs₀ (F := F) .tc cfg5.body (cfg5.bodyArgs t (cfg5.slots t)) = bodyAt5 t := by
  unfold defs₀; rw [Defs.onTc_tc]

/-- What window 0's buffer may hold at a point. -/
theorem finds0 (W : Valuation τ sig (Elt F)) (c : Dev nD) (t : Fin cfg5.N) (Y)
    (h : (mkRD (Ix := Unit) (Name := ℕ) (U := UU nD τ sig (Fin 7)) (Lvl := ℕ) cfg5 c W (after W)).Finds 0 t Y) : ∃ d, Y = fet cfg5 W 0 t d :=
  finds_fet cfg5 c W (after W) 0 rfl (.inr fun _ _ _ => rfl) (fun _ _ _ h => h) t Y h

/-- What window 1's buffer may hold at a point. -/
theorem finds1 (W : Valuation τ sig (Elt F)) (c : Dev nD) (t : Fin cfg5.N) (Y)
    (h : (mkRD (Ix := Unit) (Name := ℕ) (U := UU nD τ sig (Fin 7)) (Lvl := ℕ) cfg5 c W (after W)).Finds 1 t Y) : ∃ d, Y = fet cfg5 W 1 t d :=
  finds_fet cfg5 c W (after W) 1 rfl (.inl fetch5_1) (fun _ _ _ h => h) t Y h

/-- What window 2's buffer may hold at a point. -/
theorem finds2 (W : Valuation τ sig (Elt F)) (c : Dev nD) (t : Fin cfg5.N) (Y)
    (h : (mkRD (Ix := Unit) (Name := ℕ) (U := UU nD τ sig (Fin 7)) (Lvl := ℕ) cfg5 c W (after W)).Finds 2 t Y) : ∃ d, Y = fet cfg5 W 2 t d :=
  finds_fet cfg5 c W (after W) 2 rfl (.inl fetch5_2) (fun _ _ _ h => h) t Y h

/-- The body's obligation at every point. -/
theorem body (W : Valuation τ sig (Elt F)) (c : Dev nD) :
    (mkRD (Ix := Unit) (Name := ℕ) (U := UU nD τ sig (Fin 7)) (Lvl := ℕ) cfg5 c W (after W)).BodyObligation (defs₀ (F := F)) Variants.none () Set.univ := by
  intro t Y hY
  obtain ⟨d0, h0⟩ := finds0 W c t (Y 0) (hY 0)
  obtain ⟨d1, h1⟩ := finds1 W c t (Y 1) (hY 1)
  obtain ⟨d2, h2⟩ := finds2 W c t (Y 2) (hY 2)
  rw [bigSep_W5, bigSep_W5, defs₀_row]
  rw [show (mkRD (Ix := Unit) (Name := ℕ) (U := UU nD τ sig (Fin 7)) (Lvl := ℕ) cfg5 c W (after W)).Φ t.succ
    = (mkRD (Ix := Unit) (Name := ℕ) (U := UU nD τ sig (Fin 7)) (Lvl := ℕ) cfg5 c W (after W)).Φ t.castSucc from rfl]
  rw [show (mkRD (Ix := Unit) (Name := ℕ) (U := UU nD τ sig (Fin 7)) (Lvl := ℕ) cfg5 c W (after W)).owesAt () t.succ
    = (mkRD (Ix := Unit) (Name := ℕ) (U := UU nD τ sig (Fin 7)) (Lvl := ℕ) cfg5 c W (after W)).owesAt () t.castSucc from rfl]
  unfold bodyAt5
  iintro ⟨HΦ, Ho, H0, H1, H2, H3⟩
  iapply (kernelRun c (grid5.coords t) _ _ _ _ _ _ _ _ (Y 0) (Y 1) (Y 2) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  iexists _; isplitr; swap; · iexact H3
  ipureintro
  exact ⟨d0, d1, d2, by rw [← h0, ← h1, ← h2]⟩

end Cert.KernelIdeal.Up

end
-- ==== Proof.KernelIdealDown.lean ====
/- Region 6, the second half of the multilayer perceptron, accumulated in the output's buffer: what one point of the grid leaves there, and the body's obligation. -/
module

public import proofs.«01_k».proof.Proof.Region
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Region

variable {F : FTy → Type} [FloatOps F] [Named F]

local notation "𝕄" => MT nD τ sig Unit (Elt F) ℕ (UU nD τ sig (Fin 7)) ℕ

set_option maxHeartbeats 1000000 in
/-- One run of the body on whole buffers: the output's holds the body's value of what the buffers held, the inputs' are as they were. -/
theorem kernelRun (c : Dev nD) (i : grid6.Coords) (arg2 : Memref sig .tc .vmem S2048x1152 .bf16) (harg2 : arg2.IsWhole) (arg3 : Memref sig .tc .vmem S1024x1152 .f32) (harg3 : arg3.IsWhole) (arg4 : Memref sig .tc .vmem S2048x1024 .bf16) (harg4 : arg4.IsWhole) (arg5 : Memref sig .tc .vmem S2048x1024 .f32) (harg5 : arg5.IsWhole)
    (x0 : Vec F S2048x1152 .bf16) (x1 : Vec F S1024x1152 .f32) (x2 : Vec F S2048x1024 .bf16) (y : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y
        ∗ (iprop(owns (c : Thread nD τ) arg2 fullShare x0 ∗ owns (c : Thread nD τ) arg3 fullShare x1 ∗ owns (c : Thread nD τ) arg4 fullShare x2 ∗ owns (c : Thread nD τ) arg5 fullShare (k6_pay1 i x0 x1 x2 y)) -∗ K ⟨⟩))
      ⊢ wp frame (wpE (defs₀ (F := F)) Variants.none c none) E (cc6__mlp_down_body i arg2 harg2 arg3 harg3 arg4 harg4 arg5 harg5) K := by
  simp only [cc6__mlp_down_body_eq_skeleton]; unfold cc6__mlp_down_body_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_full, View.readAt_full, View.readAt_full, View.readAt_full, View.readAt_full, hf0, hf1, hf2, hf3]

/-- What the body may leave at a point: the inputs' buffers as found, the output's at the body's value of the blocks fetched. -/
def after (W : Valuation τ sig (Elt F)) (w : Fin cfg6.W) (t : Fin cfg6.N) (Y X : (cfg6.win w).block.Idx → Elt F (cfg6.win w).elt) : Prop :=
  match w with
  | ⟨0, _⟩ => X = Y
  | ⟨1, _⟩ => X = Y
  | ⟨2, _⟩ => X = Y
  | ⟨3, _⟩ => ∃ d0 d1 d2, X = k6_pay1 (F := F) (grid6.coords t) (fet cfg6 W 0 t d0) (fet cfg6 W 1 t d1) (fet cfg6 W 2 t d2) Y

/-- The body table's row at point `t`'s slots. -/
theorem defs₀_row (t : Fin cfg6.N) :
    defs₀ (F := F) .tc cfg6.body (cfg6.bodyArgs t (cfg6.slots t)) = bodyAt6 t := by
  unfold defs₀; rw [Defs.onTc_tc]

/-- What window 0's buffer may hold at a point. -/
theorem finds0 (W : Valuation τ sig (Elt F)) (c : Dev nD) (t : Fin cfg6.N) (Y)
    (h : (mkRD (Ix := Unit) (Name := ℕ) (U := UU nD τ sig (Fin 7)) (Lvl := ℕ) cfg6 c W (after W)).Finds 0 t Y) : ∃ d, Y = fet cfg6 W 0 t d :=
  finds_fet cfg6 c W (after W) 0 rfl (.inr fun _ _ _ => rfl) (fun _ _ _ h => h) t Y h

/-- What window 1's buffer may hold at a point. -/
theorem finds1 (W : Valuation τ sig (Elt F)) (c : Dev nD) (t : Fin cfg6.N) (Y)
    (h : (mkRD (Ix := Unit) (Name := ℕ) (U := UU nD τ sig (Fin 7)) (Lvl := ℕ) cfg6 c W (after W)).Finds 1 t Y) : ∃ d, Y = fet cfg6 W 1 t d :=
  finds_fet cfg6 c W (after W) 1 rfl (.inl fetch6_1) (fun _ _ _ h => h) t Y h

/-- What window 2's buffer may hold at a point. -/
theorem finds2 (W : Valuation τ sig (Elt F)) (c : Dev nD) (t : Fin cfg6.N) (Y)
    (h : (mkRD (Ix := Unit) (Name := ℕ) (U := UU nD τ sig (Fin 7)) (Lvl := ℕ) cfg6 c W (after W)).Finds 2 t Y) : ∃ d, Y = fet cfg6 W 2 t d :=
  finds_fet cfg6 c W (after W) 2 rfl (.inr fun _ _ _ => rfl) (fun _ _ _ h => h) t Y h

/-- The body's obligation at every point. -/
theorem body (W : Valuation τ sig (Elt F)) (c : Dev nD) :
    (mkRD (Ix := Unit) (Name := ℕ) (U := UU nD τ sig (Fin 7)) (Lvl := ℕ) cfg6 c W (after W)).BodyObligation (defs₀ (F := F)) Variants.none () Set.univ := by
  intro t Y hY
  obtain ⟨d0, h0⟩ := finds0 W c t (Y 0) (hY 0)
  obtain ⟨d1, h1⟩ := finds1 W c t (Y 1) (hY 1)
  obtain ⟨d2, h2⟩ := finds2 W c t (Y 2) (hY 2)
  rw [bigSep_W6, bigSep_W6, defs₀_row]
  rw [show (mkRD (Ix := Unit) (Name := ℕ) (U := UU nD τ sig (Fin 7)) (Lvl := ℕ) cfg6 c W (after W)).Φ t.succ
    = (mkRD (Ix := Unit) (Name := ℕ) (U := UU nD τ sig (Fin 7)) (Lvl := ℕ) cfg6 c W (after W)).Φ t.castSucc from rfl]
  rw [show (mkRD (Ix := Unit) (Name := ℕ) (U := UU nD τ sig (Fin 7)) (Lvl := ℕ) cfg6 c W (after W)).owesAt () t.succ
    = (mkRD (Ix := Unit) (Name := ℕ) (U := UU nD τ sig (Fin 7)) (Lvl := ℕ) cfg6 c W (after W)).owesAt () t.castSucc from rfl]
  unfold bodyAt6
  iintro ⟨HΦ, Ho, H0, H1, H2, H3⟩
  iapply (kernelRun c (grid6.coords t) _ _ _ _ _ _ _ _ (Y 0) (Y 1) (Y 2) (Y 3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  iexists _; isplitr; swap; · iexact H3
  ipureintro
  exact ⟨d0, d1, d2, by rw [← h0, ← h1, ← h2]⟩

end Cert.KernelIdeal.Down

end
-- ==== Proof.KernelIdealWhole.lean ====
/- The whole program's run: its five host stretches and seven regions in order, the arguments kept, and what is known of the result. -/
module

public import proofs.«01_k».proof.Proof.KernelIdealRms
public import proofs.«01_k».proof.Proof.KernelIdealQkv
public import proofs.«01_k».proof.Proof.KernelIdealAttn
public import proofs.«01_k».proof.Proof.KernelIdealDense
public import proofs.«01_k».proof.Proof.KernelIdealRms2
public import proofs.«01_k».proof.Proof.KernelIdealUp
public import proofs.«01_k».proof.Proof.KernelIdealDown
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Region

variable {F : FTy → Type} [FloatOps F] [Named F]

local notation "𝕄" => MT nD τ sig Unit (Elt F) ℕ (UU nD τ sig (Fin 7)) ℕ

/-- What each region's body may leave. -/
def after : (p : Fin 7) → After (τ := τ) (pcfgs (F := F)) adm p
  | ⟨0, _⟩ => Rms.after
  | ⟨1, _⟩ => Qkv.after
  | ⟨2, _⟩ => Attn.after
  | ⟨3, _⟩ => Dense.after
  | ⟨4, _⟩ => Rms2.after
  | ⟨5, _⟩ => Up.after
  | ⟨6, _⟩ => Down.after
  | ⟨_ + 7, h⟩ => absurd h (Nat.not_lt.2 (Nat.le_add_left _ _))

/-- Region 0's one output window is window 2. -/
theorem facts0 : RegFacts (nD := nD) (τ := τ) (pcfgs (F := F)) adm 0 2 := ⟨launch0.to₀.toP, rfl, (by decide : ∀ w : Fin 3, (cfg0.win w).isOut = true → w = 2), rfl⟩
/-- Region 1's one output window is window 5. -/
theorem facts1 : RegFacts (nD := nD) (τ := τ) (pcfgs (F := F)) adm 1 5 := ⟨launch1.to₀.toP, rfl, (by decide : ∀ w : Fin 6, (cfg1.win w).isOut = true → w = 5), rfl⟩
/-- Region 2's one output window is window 3. -/
theorem facts2 : RegFacts (nD := nD) (τ := τ) (pcfgs (F := F)) adm 2 3 := ⟨launch₀2.toP, rfl, (by decide : ∀ w : Fin 4, (cfg2.win w).isOut = true → w = 3), rfl⟩
/-- Region 3's one output window is window 3. -/
theorem facts3 : RegFacts (nD := nD) (τ := τ) (pcfgs (F := F)) adm 3 3 := ⟨launch3.to₀.toP, rfl, (by decide : ∀ w : Fin 4, (cfg3.win w).isOut = true → w = 3), rfl⟩
/-- Region 4's one output window is window 2. -/
theorem facts4 : RegFacts (nD := nD) (τ := τ) (pcfgs (F := F)) adm 4 2 := ⟨launch4.to₀.toP, rfl, (by decide : ∀ w : Fin 3, (cfg4.win w).isOut = true → w = 2), rfl⟩
/-- Region 5's one output window is window 3. -/
theorem facts5 : RegFacts (nD := nD) (τ := τ) (pcfgs (F := F)) adm 5 3 := ⟨launch₀5.toP, rfl, (by decide : ∀ w : Fin 4, (cfg5.win w).isOut = true → w = 3), rfl⟩
/-- Region 6's one output window is window 3. -/
theorem facts6 : RegFacts (nD := nD) (τ := τ) (pcfgs (F := F)) adm 6 3 := ⟨launch6.to₀.toP, rfl, (by decide : ∀ w : Fin 4, (cfg6.win w).isOut = true → w = 3), rfl⟩

variable (m : (ℓ : Loc nD τ sig) → Buf (Elt F) ℓ)

/-- What is known after host stretch 0. -/
abbrev P1 : Dev nD → Valuation τ sig (Elt F) → Prop := hostNext (hostOps0 (F := F)) (atLaunch m)
/-- What is known after region 0. -/
abbrev P2 : Dev nD → Valuation τ sig (Elt F) → Prop := regNext (pcfgs (F := F)) adm after 0 2 (P1 m)
/-- What is known after host stretch 1. -/
abbrev P3 : Dev nD → Valuation τ sig (Elt F) → Prop := hostNext (hostOps1 (F := F)) (P2 m)
/-- What is known after region 1. -/
abbrev P4 : Dev nD → Valuation τ sig (Elt F) → Prop := regNext (pcfgs (F := F)) adm after 1 5 (P3 m)
/-- What is known after region 2. -/
abbrev P5 : Dev nD → Valuation τ sig (Elt F) → Prop := regNext (pcfgs (F := F)) adm after 2 3 (P4 m)
/-- What is known after region 3. -/
abbrev P6 : Dev nD → Valuation τ sig (Elt F) → Prop := regNext (pcfgs (F := F)) adm after 3 3 (P5 m)
/-- What is known after host stretch 4. -/
abbrev P7 : Dev nD → Valuation τ sig (Elt F) → Prop := hostNext (hostOps4 (F := F)) (P6 m)
/-- What is known after region 4. -/
abbrev P8 : Dev nD → Valuation τ sig (Elt F) → Prop := regNext (pcfgs (F := F)) adm after 4 2 (P7 m)
/-- What is known after host stretch 5. -/
abbrev P9 : Dev nD → Valuation τ sig (Elt F) → Prop := hostNext (hostOps5 (F := F)) (P8 m)
/-- What is known after region 5. -/
abbrev P10 : Dev nD → Valuation τ sig (Elt F) → Prop := regNext (pcfgs (F := F)) adm after 5 3 (P9 m)
/-- What is known after region 6. -/
abbrev P11 : Dev nD → Valuation τ sig (Elt F) → Prop := regNext (pcfgs (F := F)) adm after 6 3 (P10 m)
/-- What is known after host stretch 7. -/
abbrev P12 : Dev nD → Valuation τ sig (Elt F) → Prop := hostNext (hostOps7 (F := F)) (P11 m)

/-- Host stretch 0 touches unscoped buffers only, … -/
theorem sub0 : ∀ op ∈ (hostOps0 : List (HloOp τ sig (Elt F))), op.bufs ⊆ ucRefs τ sig :=
  fun op h => Pipeline.sub_ucRefs op ((List.forall_iff_forall_mem.mp hostOps0_sub) op h)
/-- … and allocates nothing. -/
theorem fresh0 : ∀ op ∈ (hostOps0 : List (HloOp τ sig (Elt F))), op.fresh = ∅ := fun op h => (List.forall_iff_forall_mem.mp hostOps0_fresh) op h
/-- Host stretch 1 touches unscoped buffers only, … -/
theorem sub1 : ∀ op ∈ (hostOps1 : List (HloOp τ sig (Elt F))), op.bufs ⊆ ucRefs τ sig :=
  fun op h => Pipeline.sub_ucRefs op ((List.forall_iff_forall_mem.mp hostOps1_sub) op h)
/-- … and allocates nothing. -/
theorem fresh1 : ∀ op ∈ (hostOps1 : List (HloOp τ sig (Elt F))), op.fresh = ∅ := fun op h => (List.forall_iff_forall_mem.mp hostOps1_fresh) op h
/-- Host stretch 4 touches unscoped buffers only, … -/
theorem sub4 : ∀ op ∈ (hostOps4 : List (HloOp τ sig (Elt F))), op.bufs ⊆ ucRefs τ sig :=
  fun op h => Pipeline.sub_ucRefs op ((List.forall_iff_forall_mem.mp hostOps4_sub) op h)
/-- … and allocates nothing. -/
theorem fresh4 : ∀ op ∈ (hostOps4 : List (HloOp τ sig (Elt F))), op.fresh = ∅ := fun op h => (List.forall_iff_forall_mem.mp hostOps4_fresh) op h
/-- Host stretch 5 touches unscoped buffers only, … -/
theorem sub5 : ∀ op ∈ (hostOps5 : List (HloOp τ sig (Elt F))), op.bufs ⊆ ucRefs τ sig :=
  fun op h => Pipeline.sub_ucRefs op ((List.forall_iff_forall_mem.mp hostOps5_sub) op h)
/-- … and allocates nothing. -/
theorem fresh5 : ∀ op ∈ (hostOps5 : List (HloOp τ sig (Elt F))), op.fresh = ∅ := fun op h => (List.forall_iff_forall_mem.mp hostOps5_fresh) op h
/-- Host stretch 7 touches unscoped buffers only, … -/
theorem sub7 : ∀ op ∈ (hostOps7 : List (HloOp τ sig (Elt F))), op.bufs ⊆ ucRefs τ sig :=
  fun op h => Pipeline.sub_ucRefs op ((List.forall_iff_forall_mem.mp hostOps7_sub) op h)
/-- … and allocates nothing. -/
theorem fresh7 : ∀ op ∈ (hostOps7 : List (HloOp τ sig (Elt F))), op.fresh = ∅ := fun op h => (List.forall_iff_forall_mem.mp hostOps7_fresh) op h

/-- The program's items, in order. -/
def segs : List (KSeg (nD := nD) (τ := τ) (pcfgs (F := F)) adm (defs₀ (F := F))) :=
  [ hostSeg _ _ _ hostOps0 sub0 fresh0 (atLaunch m),
    regSeg _ _ cellOf_inj _ after 0 2 facts0 Rms.body (P1 m),
    hostSeg _ _ _ hostOps1 sub1 fresh1 (P2 m),
    regSeg _ _ cellOf_inj _ after 1 5 facts1 Qkv.body (P3 m),
    regSeg _ _ cellOf_inj _ after 2 3 facts2 Attn.body (P4 m),
    regSeg _ _ cellOf_inj _ after 3 3 facts3 Dense.body (P5 m),
    hostSeg _ _ _ hostOps4 sub4 fresh4 (P6 m),
    regSeg _ _ cellOf_inj _ after 4 2 facts4 Rms2.body (P7 m),
    hostSeg _ _ _ hostOps5 sub5 fresh5 (P8 m),
    regSeg _ _ cellOf_inj _ after 5 3 facts5 Up.body (P9 m),
    regSeg _ _ cellOf_inj _ after 6 3 facts6 Down.body (P10 m),
    hostSeg _ _ _ hostOps7 sub7 fresh7 (P11 m) ]

/-- The items chain: each is entered with what the one before is left with. -/
theorem chain : CSeg.Chains (St (atLaunch m)) (segs m) (St (P12 m)) :=
  ⟨fun c => hostSeg_pre _ _ _ _ _ _ _ c,
   fun c => (hostSeg_post _ _ _ _ _ _ _ c).trans (regSeg_pre _ _ _ _ _ _ _ _ _ _ c),
   fun c => (regSeg_post _ _ _ _ _ _ _ _ _ _ c).trans (hostSeg_pre _ _ _ _ _ _ _ c),
   fun c => (hostSeg_post _ _ _ _ _ _ _ c).trans (regSeg_pre _ _ _ _ _ _ _ _ _ _ c),
   fun c => (regSeg_post _ _ _ _ _ _ _ _ _ _ c).trans (regSeg_pre _ _ _ _ _ _ _ _ _ _ c),
   fun c => (regSeg_post _ _ _ _ _ _ _ _ _ _ c).trans (regSeg_pre _ _ _ _ _ _ _ _ _ _ c),
   fun c => (regSeg_post _ _ _ _ _ _ _ _ _ _ c).trans (hostSeg_pre _ _ _ _ _ _ _ c),
   fun c => (hostSeg_post _ _ _ _ _ _ _ c).trans (regSeg_pre _ _ _ _ _ _ _ _ _ _ c),
   fun c => (regSeg_post _ _ _ _ _ _ _ _ _ _ c).trans (hostSeg_pre _ _ _ _ _ _ _ c),
   fun c => (hostSeg_post _ _ _ _ _ _ _ c).trans (regSeg_pre _ _ _ _ _ _ _ _ _ _ c),
   fun c => (regSeg_post _ _ _ _ _ _ _ _ _ _ c).trans (regSeg_pre _ _ _ _ _ _ _ _ _ _ c),
   fun c => (regSeg_post _ _ _ _ _ _ _ _ _ _ c).trans (hostSeg_pre _ _ _ _ _ _ _ c),
   fun c => hostSeg_post _ _ _ _ _ _ _ c⟩

/-- No region is entered twice. -/
theorem disjoint : (segs m).Pairwise fun s s' => Disjoint s.T s'.T := by
  refine (List.pairwise_map (f := fun s : KSeg (nD := nD) (τ := τ) (pcfgs (F := F)) adm defs₀ => s.T) (R := fun a b => Disjoint a b)).mp ?_
  show ([∅, {0}, ∅, {1}, {2}, {3}, ∅, {4}, ∅, {5}, {6}, ∅] : List (Finset (Fin 7))).Pairwise fun a b => Disjoint a b
  decide

/-- The program is the run of its items. -/
theorem main_eq (c : Dev nD) : HostLoop.liftProg (L := 0) (main (F := F) c) = CSeg.runL (segs m) := by
  rw [Gen.main_chain, HostLoop.liftProg_chain]
  simp only [List.map_cons, List.map_nil, HostLoop.liftProg_seq]
  rfl

/-- THE RUN: it ends, every semaphore at zero, with the unscoped buffers at a valuation of which the last item's fact holds. -/
theorem runs (g : Dev nD → PrngReg) :
    θ_run defs (onTc (τ := τ) (main (F := F))) ⟨m, fun _ => 0, g⟩ (fun r =>
      (∀ c : Dev nD, ∃ W, P12 m c W ∧ ∀ b ∈ ucRefs τ sig, r.2.mem ((c : Dev nD), b) = W b) ∧ r.2.sem = fun _ => 0) :=
  run (pcfgs (F := F)) adm cellOf_inj defs₀ m g main (segs m) (main_eq m) (disjoint m) (P12 m) (chain m)
    fun s h hz => ⟨h, funext fun g' => hz g' (.inr (regions_no_unscoped g'.2))⟩

/-- The buffers the items write. -/
abbrev written : List (Ref sig .tc) := hostOps0_W ++ [main_v29, main_v30, main_v31, main_v32, main_v33, main_v34, main_v35, main_v36, main_v37, main_v38, main_v39]

/-- A buffer no item writes ends as launched. -/
theorem kept (c : Dev nD) (W : Valuation τ sig (Elt F)) (h : P12 m c W) (r : Ref sig .tc)
    (hr : r ∉ written) : W (Proc.devRef .tc r) = m ((c : Dev nD), Proc.devRef .tc r) := by
  have hW0 : r ∉ hostOps0_W := fun h => hr (List.mem_append_left _ h)
  have hne {a : Ref sig .tc} (h : a ∈ written) : r ≠ a := fun e => hr (e ▸ h)
  have hd {a : Ref sig .tc} (h : a ∈ written) : Proc.devRef (τ := τ) .tc r ≠ Proc.devRef .tc a := StableHlo.devRef_ne_of_ne (hne h)
  have h1 {a : Ref sig .tc} (h : a ∈ written) : r ∉ [a] := List.not_mem_cons_of_ne_of_not_mem (hne h) List.not_mem_nil
  obtain ⟨W11, ⟨W10, X10, ⟨W9, X9, ⟨W8, ⟨W7, X7, ⟨W6, ⟨W5, X5, ⟨W4, X4, ⟨W3, X3, ⟨W2, ⟨W1, X1, ⟨W0, rfl, rfl⟩, -, rfl⟩, rfl⟩, -, rfl⟩, -, rfl⟩, -, rfl⟩, rfl⟩, -, rfl⟩, rfl⟩, -, rfl⟩, -, rfl⟩, rfl⟩ := h
  refine (StableHlo.after_of_writes_sub hostOps7 _ hostOps7_writes (h1 (by decide))).trans ?_
  refine (Function.update_of_ne (hd (by decide : main_v38 ∈ written)) _ _).trans ?_
  refine (Function.update_of_ne (hd (by decide : main_v37 ∈ written)) _ _).trans ?_
  refine (StableHlo.after_of_writes_sub hostOps5 _ hostOps5_writes (h1 (by decide))).trans ?_
  refine (Function.update_of_ne (hd (by decide : main_v35 ∈ written)) _ _).trans ?_
  refine (StableHlo.after_of_writes_sub hostOps4 _ hostOps4_writes (h1 (by decide))).trans ?_
  refine (Function.update_of_ne (hd (by decide : main_v33 ∈ written)) _ _).trans ?_
  refine (Function.update_of_ne (hd (by decide : main_v32 ∈ written)) _ _).trans ?_
  refine (Function.update_of_ne (hd (by decide : main_v31 ∈ written)) _ _).trans ?_
  refine (StableHlo.after_of_writes_sub hostOps1 _ hostOps1_writes (h1 (by decide))).trans ?_
  refine (Function.update_of_ne (hd (by decide : main_v29 ∈ written)) _ _).trans ?_
  exact StableHlo.after_of_writes_sub hostOps0 _ hostOps0_writes hW0

/-- The frame: the run ends with the arguments as launched and every semaphore at zero. -/
theorem frame (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono ?_ (runs m g)
  rintro r ⟨h, hs⟩
  refine ⟨fun c => ?_, hs⟩
  obtain ⟨W, hW, hb⟩ := h c
  have k (r' : Ref sig .tc) (hu : Proc.devRef .tc r' ∈ ucRefs τ sig) (hr : r' ∉ written) :
      r.2.mem ((c.tc : Thread nD τ).loc r') = m ((c.tc : Thread nD τ).loc r') := (hb _ hu).trans (kept m c W hW r' hr)
  exact ⟨k main_arg0 (Finset.mem_filter.mpr ⟨StableHlo.devRef_mem_tcRefs main_arg0, by decide⟩) (by decide),
    k main_arg1 (Finset.mem_filter.mpr ⟨StableHlo.devRef_mem_tcRefs main_arg1, by decide⟩) (by decide),
    k main_arg2 (Finset.mem_filter.mpr ⟨StableHlo.devRef_mem_tcRefs main_arg2, by decide⟩) (by decide),
    k main_arg3 (Finset.mem_filter.mpr ⟨StableHlo.devRef_mem_tcRefs main_arg3, by decide⟩) (by decide),
    k main_arg4 (Finset.mem_filter.mpr ⟨StableHlo.devRef_mem_tcRefs main_arg4, by decide⟩) (by decide),
    k main_arg5 (Finset.mem_filter.mpr ⟨StableHlo.devRef_mem_tcRefs main_arg5, by decide⟩) (by decide),
    k main_arg6 (Finset.mem_filter.mpr ⟨StableHlo.devRef_mem_tcRefs main_arg6, by decide⟩) (by decide),
    k main_arg7 (Finset.mem_filter.mpr ⟨StableHlo.devRef_mem_tcRefs main_arg7, by decide⟩) (by decide),
    k main_arg8 (Finset.mem_filter.mpr ⟨StableHlo.devRef_mem_tcRefs main_arg8, by decide⟩) (by decide)⟩

end Cert.KernelIdeal.Whole

end
-- ==== Proof.KernelIdealVal.lean ====
/- The arrays that the regions read and write, and the data of each region entered with given arrays. -/
module

public import proofs.«01_k».proof.Proof.Cells
public import proofs.«01_k».proof.Proof.KernelIdealPay
public import proofs.«01_k».proof.Proof.KernelIdealWhole

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline
open Cert.Region

abbrev V := Valuation τ sig (Elt Ideal)

/-- The data of the regions entered at `W`. -/
abbrev rd0 (c : Dev nD) (W : V) := mkRD (Ix := Unit) (Name := ℕ) (U := UU nD τ sig (Fin 7)) (Lvl := ℕ) cfg0 c W (Rms.after W)
abbrev rd1 (c : Dev nD) (W : V) := mkRD (Ix := Unit) (Name := ℕ) (U := UU nD τ sig (Fin 7)) (Lvl := ℕ) cfg1 c W (Qkv.after W)
abbrev rd2 (c : Dev nD) (W : V) := mkRD (Ix := Unit) (Name := ℕ) (U := UU nD τ sig (Fin 7)) (Lvl := ℕ) cfg2 c W (Attn.after W)
abbrev rd3 (c : Dev nD) (W : V) := mkRD (Ix := Unit) (Name := ℕ) (U := UU nD τ sig (Fin 7)) (Lvl := ℕ) cfg3 c W (Dense.after W)
abbrev rd4 (c : Dev nD) (W : V) := mkRD (Ix := Unit) (Name := ℕ) (U := UU nD τ sig (Fin 7)) (Lvl := ℕ) cfg4 c W (Rms2.after W)
abbrev rd5 (c : Dev nD) (W : V) := mkRD (Ix := Unit) (Name := ℕ) (U := UU nD τ sig (Fin 7)) (Lvl := ℕ) cfg5 c W (Up.after W)
abbrev rd6 (c : Dev nD) (W : V) := mkRD (Ix := Unit) (Name := ℕ) (U := UU nD τ sig (Fin 7)) (Lvl := ℕ) cfg6 c W (Down.after W)

/-- The arrays a valuation holds. -/
abbrev hid (W : V) : Vec Ideal S2048x4096 .f32 := W (Proc.devRef .tc main_v0)
abbrev cosT (W : V) : Vec Ideal S2048x4608 .f32 := W (Proc.devRef .tc main_v22)
abbrev sinT (W : V) : Vec Ideal S2048x4608 .f32 := W (Proc.devRef .tc main_v27)
abbrev wNorm1 (W : V) : Vec Ideal S1x4096 .f32 := W (Proc.devRef .tc main_v28)
abbrev norm1 (W : V) : Vec Ideal S2048x4096 .bf16 := W (Proc.devRef .tc main_v29)
abbrev bQkv (W : V) : Vec Ideal S1x4608 .f32 := W (Proc.devRef .tc main_v30)
abbrev wQkv (W : V) : Vec Ideal S4608x4096 .f32 := W (Proc.devRef .tc main_arg3)
abbrev turned (W : V) : Vec Ideal S2048x4608 .bf16 := W (Proc.devRef .tc main_v31)
abbrev ctx (W : V) : Vec Ideal S2048x4096 .bf16 := W (Proc.devRef .tc main_v32)
abbrev wDense (W : V) : Vec Ideal S4096x4096 .f32 := W (Proc.devRef .tc main_arg5)
abbrev xIn (W : V) : Vec Ideal S2048x4096 .bf16 := W (Proc.devRef .tc main_v33)
abbrev wNorm (W : V) : Vec Ideal S1x4096 .f32 := W (Proc.devRef .tc main_v34)
abbrev norm (W : V) : Vec Ideal S2048x4096 .bf16 := W (Proc.devRef .tc main_v35)
abbrev wUp (W : V) : Vec Ideal S2x13696x4096 .f32 := W (Proc.devRef .tc main_v36)
abbrev gate (W : V) : Vec Ideal S2048x13824 .bf16 := W (Proc.devRef .tc main_v37)
abbrev wDown (W : V) : Vec Ideal S4096x13696 .f32 := W (Proc.devRef .tc main_arg8)
abbrev out (W : V) : Vec Ideal S2048x4096 .f32 := W (Proc.devRef .tc main_v38)

end Cert.KernelIdeal.Val

end
-- ==== Proof.KernelIdealHost.lean ====
/- The arrays that the host lays out between the regions, element by element, over the extended reals: the tables of cosines and sines, and the reshaped arguments. -/
module

public import proofs.«01_k».proof.Proof.KernelIdealVal

@[expose] public section

set_option maxRecDepth 16384

noncomputable section

namespace Cert.KernelIdeal.Val

open Cert.KernelIdeal Cert.KernelIdeal.Gen
open Idealize.ShloMosaic Idealize.ShloMosaic.TcCoe Idealize.ShloMosaic.StableHlo
open Idealize.ShloMosaic.Pipeline
open Cert.Region

/-- One of the two members of each pair of the cache. -/
def cos32 (c : FVec Ideal S2048x32x2 .f32) : FVec Ideal S2048x32 .f32 :=
  shapeCast S2048x32 (extractStridedSlice S2048x32x1 ![0, 0, 0] c slices_S2048x32x2_S2048x32x1_0_0_0) shapeCasts_S2048x32x1_S2048x32
/-- The other. -/
def sin32 (c : FVec Ideal S2048x32x2 .f32) : FVec Ideal S2048x32 .f32 :=
  shapeCast S2048x32 (extractStridedSlice S2048x32x1 ![0, 0, 1] c slices_S2048x32x2_S2048x32x1_0_0_1) shapeCasts_S2048x32x1_S2048x32
/-- Two tables interleaved. -/
def weave (a b : FVec Ideal S2048x32 .f32) : FVec Ideal S2048x64 .f32 :=
  shapeCast S2048x64 (concatenate S2048x32x2 2 [⟨S2048x32x1, broadcastInDim S2048x32x1 ![0, 1] bcast_S2048x32_S2048x32x1_0_1 a⟩,
    ⟨S2048x32x1, broadcastInDim S2048x32x1 ![0, 1] bcast_S2048x32_S2048x32x1_0_1 b⟩] concatenates_S2048x32x1_S2048x32x1_S2048x32x2_d2) shapeCasts_S2048x32x2_S2048x64
/-- A table repeated for each query and key head, the word `u` in the columns that are not rotated. -/
def spread (a : FVec Ideal S2048x64 .f32) (u : BitVec 32) : FVec Ideal S2048x4608 .f32 :=
  concatenate S2048x4608 1 [⟨S2048x4352, shapeCast S2048x4352 (broadcastInDim S1x2048x34x128 ![0, 1, 2, 3] bcast_S1x2048x1x128_S1x2048x34x128_0_1_2_3
      (shapeCast S1x2048x1x128 (concatenate S2048x128 1 [⟨S2048x64, a⟩, ⟨S2048x64, broadcastInDim S2048x64 ![] bcast_S_S2048x64 (constant S_ .f32 u)⟩] concatenates_S2048x64_S2048x64_S2048x128_d1)
        shapeCasts_S2048x128_S1x2048x1x128)) shapeCasts_S1x2048x34x128_S2048x4352⟩,
    ⟨S2048x256, broadcastInDim S2048x256 ![] bcast_S_S2048x256 (constant S_ .f32 u)⟩] concatenates_S2048x4352_S2048x256_S2048x4608_d1

theorem cos32_at (c : FVec Ideal S2048x32x2 .f32) (r : Fin 2048) (k : Fin 32) : cos32 c (ix2 r k) = c (ix3 r k 0) := by
  unfold cos32
  pointwise
theorem sin32_at (c : FVec Ideal S2048x32x2 .f32) (r : Fin 2048) (k : Fin 32) : sin32 c (ix2 r k) = c (ix3 r k 1) := by
  unfold sin32
  pointwise
theorem weave_at (a b : FVec Ideal S2048x32 .f32) (r : Fin 2048) (d : Fin 64) :
    weave a b (ix2 r d) = if d.val % 2 = 0 then a (ix2 r ⟨d.val / 2, by omega⟩) else b (ix2 r ⟨d.val / 2, by omega⟩) := by
  unfold weave
  pointwise
  by_cases h : d.val % 2 = 0
  · exact (dif_pos (by omega)).trans (if_pos h).symm
  · exact (dif_neg (by omega)).trans (if_neg h).symm
theorem spread_at (a : FVec Ideal S2048x64 .f32) (u : BitVec 32) (r : Fin 2048) (n : Fin 4608) :
    spread a u (ix2 r n) = if h : Model.Turned n.val then a (ix2 r ⟨n.val % 128, h.2⟩) else Ideal.ofBits .f32 u := by
  by_cases hh : Model.Turned n.val
  · rw [dif_pos hh]
    unfold spread
    pointwise
    exact (dif_pos hh.1).trans (dif_pos hh.2)
  · rw [dif_neg hh]
    unfold spread
    pointwise
    by_cases h : n.val < 4352
    · exact (dif_pos h).trans (dif_neg fun h' => hh ⟨h, h'⟩)
    · exact dif_neg h

theorem host0_cos (W : V) : cosT (StableHlo.after (hostOps0 (F := Ideal)) W) = spread (weave (cos32 (W (Proc.devRef .tc main_arg1))) (cos32 (W (Proc.devRef .tc main_arg1)))) 0x3F800000#32 := by
  unfold cosT
  after_results
  rfl
theorem host0_sin (W : V) : sinT (StableHlo.after (hostOps0 (F := Ideal)) W) = spread (weave (Host.negf (sin32 (W (Proc.devRef .tc main_arg1)))) (sin32 (W (Proc.devRef .tc main_arg1)))) 0x00000000#32 := by
  unfold sinT
  after_results
  rfl

/-- The table of cosines: a rotated column's cosine, 1 elsewhere. -/
theorem cos_at (c : FVec Ideal S2048x32x2 .f32) (r : Fin 2048) (n : Fin 4608) :
    spread (weave (cos32 c) (cos32 c)) 0x3F800000#32 (ix2 r n) = if Model.Turned n.val then c (ix3 r (Model.pair n.val) 0) else 1 := by
  rw [spread_at]
  by_cases h : Model.Turned n.val
  · rw [dif_pos h, if_pos h, weave_at, cos32_at, ite_self]
    exact congrArg (fun k => c (ix3 r k 0)) (Fin.ext (by have := h.2; show n.val % 128 / 2 = n.val % 64 / 2; omega))
  · rw [dif_neg h, if_neg h]; exact Ideal.ofBits_one_f32
/-- The table of sines: a rotated column's sine, negated in the first of its pair, 0 elsewhere. -/
theorem sin_at (c : FVec Ideal S2048x32x2 .f32) (r : Fin 2048) (n : Fin 4608) :
    spread (weave (Host.negf (sin32 c)) (sin32 c)) 0x00000000#32 (ix2 r n)
      = if Model.Turned n.val then (if n.val % 2 = 0 then -c (ix3 r (Model.pair n.val) 1) else c (ix3 r (Model.pair n.val) 1)) else 0 := by
  rw [spread_at]
  by_cases h : Model.Turned n.val
  · have e : (⟨n.val % 128 / 2, by have := h.2; omega⟩ : Fin 32) = Model.pair n.val := Fin.ext (by have := h.2; show n.val % 128 / 2 = n.val % 64 / 2; omega)
    rw [dif_pos h, if_pos h, weave_at]
    by_cases h2 : n.val % 2 = 0
    · refine (if_pos (by show n.val % 128 % 2 = 0; omega)).trans ((congrArg (fun x : EReal => -x) (sin32_at c r _)).trans ?_)
      rw [if_pos h2]; exact congrArg (fun k => -(c (ix3 r k 1) : EReal)) e
    · refine (if_neg (by show ¬ n.val % 128 % 2 = 0; omega)).trans ((sin32_at c r _).trans ?_)
      rw [if_neg h2]; exact congrArg (fun k => c (ix3 r k 1)) e
  · rw [dif_neg h, if_neg h]; exact Ideal.ofBits_zero_f32

/-- With these tables the rotation of the pairs is one product by each. -/
theorem rope_tables (y : Fin 4608 → EReal) (c : Fin 32 → Fin 2 → EReal) (n : Fin 4608) :
    y n * (if Model.Turned n.val then c (Model.pair n.val) 0 else 1)
      + y (Model.swap n) * (if Model.Turned n.val then (if n.val % 2 = 0 then -c (Model.pair n.val) 1 else c (Model.pair n.val) 1) else 0) = Model.rope y c n := by
  unfold Model.rope
  by_cases h : Model.Turned n.val
  · simp only [if_pos h]
    by_cases h2 : n.val % 2 = 0
    · simp only [if_pos h2]; rw [mul_neg, sub_eq_add_neg]
    · simp only [if_neg h2]
  · simp only [if_neg h, mul_one, mul_zero, add_zero]

/-- The first host stretch lays the input out in rows and the norm's weights as one row. -/
theorem host0_hid (W : V) (r : Fin 2048) (k : Fin 4096) :
    hid (StableHlo.after (hostOps0 (F := Ideal)) W) (ix2 r k) = (W (Proc.devRef .tc main_arg0) : Vec Ideal S2048x1x4096 .f32) (ix3 r 0 k) := by
  have e : hid (StableHlo.after (hostOps0 (F := Ideal)) W) = shapeCast S2048x4096 (W (Proc.devRef .tc main_arg0) : Vec Ideal S2048x1x4096 .f32) shapeCasts_S2048x1x4096_S2048x4096 := by
    unfold hid
    after_results
    rfl
  rw [e]
  pointwise
theorem host0_norm (W : V) (k : Fin 4096) :
    wNorm1 (StableHlo.after (hostOps0 (F := Ideal)) W) (ix2 0 k) = (W (Proc.devRef .tc main_arg2) : Vec Ideal S4096 .f32) (ix1 k) := by
  have e : wNorm1 (StableHlo.after (hostOps0 (F := Ideal)) W) = shapeCast S1x4096 (W (Proc.devRef .tc main_arg2) : Vec Ideal S4096 .f32) shapeCasts_S4096_S1x4096 := by
    unfold wNorm1
    after_results
    rfl
  rw [e]
  pointwise
/-- The second lays the bias out as one row. -/
theorem host1_bias (W : V) (k : Fin 4608) :
    bQkv (StableHlo.after (hostOps1 (F := Ideal)) W) (ix2 0 k) = (W (Proc.devRef .tc main_arg4) : Vec Ideal S4608 .f32) (ix1 k) := by
  have e : bQkv (StableHlo.after (hostOps1 (F := Ideal)) W) = shapeCast S1x4608 (W (Proc.devRef .tc main_arg4) : Vec Ideal S4608 .f32) shapeCasts_S4608_S1x4608 := by
    unfold bQkv
    after_results
    rfl
  rw [e]
  pointwise
/-- The third lays the second norm's weights out as one row. -/
theorem host4_norm (W : V) (k : Fin 4096) :
    wNorm (StableHlo.after (hostOps4 (F := Ideal)) W) (ix2 0 k) = (W (Proc.devRef .tc main_arg6) : Vec Ideal S4096 .f32) (ix1 k) := by
  have e : wNorm (StableHlo.after (hostOps4 (F := Ideal)) W) = shapeCast S1x4096 (W (Proc.devRef .tc main_arg6) : Vec Ideal S4096 .f32) shapeCasts_S4096_S1x4096 := by
    unfold wNorm
    after_results
    rfl
  rw [e]
  pointwise
/-- The fourth lays the gated product's weights out as two halves. -/
theorem host5_up (W : V) (h : Fin 2) (q : Fin 13696) (k : Fin 4096) (p : Fin 27392) (hp : p.val = h.val * 13696 + q.val) :
    wUp (StableHlo.after (hostOps5 (F := Ideal)) W) (ix3 h q k) = (W (Proc.devRef .tc main_arg7) : Vec Ideal S27392x4096 .f32) (ix2 p k) := by
  have e : wUp (StableHlo.after (hostOps5 (F := Ideal)) W) = shapeCast S2x13696x4096 (W (Proc.devRef .tc main_arg7) : Vec Ideal S27392x4096 .f32) shapeCasts_S27392x4096_S2x13696x4096 := by
    unfold wUp
    after_results
    rfl
  rw [e]
  pointwise
  exact congrArg (fun p => (W (Proc.devRef .tc main_arg7) : Vec Ideal S27392x4096 .f32) (ix2 p k)) (Fin.ext hp.symm)
/-- The last gives the result its middle axis back. -/
theorem host7_res (W : V) (r : Fin 2048) (n : Fin 4096) :
    (StableHlo.after (hostOps7 (F := Ideal)) W (Proc.devRef .tc main_v39) : Vec Ideal S2048x1x4096 .f32) (ix3 r 0 n) = out W (ix2 r n) := by
  have e : (StableHlo.after (hostOps7 (F := Ideal)) W (Proc.devRef .tc main_v39) : Vec Ideal S2048x1x4096 .f32) = shapeCast S2048x1x4096 (out W) shapeCasts_S2048x4096_S2048x1x4096 := by
    unfold out
    after_results
    rfl
  rw [e]
  pointwise

end Cert.KernelIdeal.Val

end
-- ==== Proof.KernelIdealValQkv.lean ====
/- What the norm of the input and the projection leave, element by element, over the extended reals. -/
module

public import proofs.«01_k».proof.Proof.KernelIdealVal

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline
open Cert.Region

theorem idx0_0 : ∀ t : Fin cfg0.N, win0_0.index t 0 = t.val ∧ win0_0.index t 1 = 0 := by decide +kernel
theorem idx0_1 : ∀ t : Fin cfg0.N, win0_1.index t 0 = 0 ∧ win0_1.index t 1 = 0 := by decide +kernel
theorem idx0_2 : ∀ t : Fin cfg0.N, win0_2.index t 0 = t.val ∧ win0_2.index t 1 = 0 := by decide +kernel

/-! ## Region 0 -/

theorem in0_0 (t : Fin cfg0.N) (p : Fin 256) (j : Fin 4096) (r : Fin 2048) (hr : r.val = t.val * 256 + p.val) :
    InBlk cfg0 0 t (ix2 p j) (ix2 r j) := by
  intro a
  match a with
  | ⟨0, _⟩ => exact ⟨p.isLt, by show r.val = win0_0.index t 0 * 256 + p.val; rw [(idx0_0 t).1]; exact hr⟩
  | ⟨1, _⟩ => exact ⟨j.isLt, by show j.val = win0_0.index t 1 * 4096 + j.val; rw [(idx0_0 t).2]; omega⟩

theorem in0_1 (t : Fin cfg0.N) (j : Fin 4096) : InBlk cfg0 1 t (ix2 (0 : Fin 1) j) (ix2 (0 : Fin 1) j) := by
  intro a
  match a with
  | ⟨0, _⟩ => exact ⟨Nat.one_pos, by show 0 = win0_1.index t 0 * 1 + 0; rw [(idx0_1 t).1]⟩
  | ⟨1, _⟩ => exact ⟨j.isLt, by show j.val = win0_1.index t 1 * 4096 + j.val; rw [(idx0_1 t).2]; omega⟩

theorem in0_2 (t : Fin cfg0.N) (p : Fin 256) (j : Fin 4096) (r : Fin 2048) (hr : r.val = t.val * 256 + p.val) :
    InBlk cfg0 2 t (ix2 p j) (ix2 r j) := by
  intro a
  match a with
  | ⟨0, _⟩ => exact ⟨p.isLt, by show r.val = win0_2.index t 0 * 256 + p.val; rw [(idx0_2 t).1]; exact hr⟩
  | ⟨1, _⟩ => exact ⟨j.isLt, by show j.val = win0_2.index t 1 * 4096 + j.val; rw [(idx0_2 t).2]; omega⟩

/-- Region 0 leaves the RMS norm of each row. -/
theorem val0 (c : Dev nD) (W : V) (X : Vec Ideal S2048x4096 .bf16) (h : (rd0 c W).ArrAt 2 cfg0.N X) (r : Fin 2048) (j : Fin 4096) :
    X (ix2 r j) = Model.rms (fun k => hid W (ix2 r k)) (fun k => wNorm1 W (ix2 0 k)) j := by
  have hN : cfg0.N = 8 := N_0
  obtain ⟨t, p, hr⟩ : ∃ (t : Fin cfg0.N) (p : Fin 256), r.val = t.val * 256 + p.val :=
    ⟨⟨r.val / 256, by omega⟩, ⟨r.val % 256, by omega⟩, by show r.val = r.val / 256 * 256 + r.val % 256; omega⟩
  obtain ⟨Z, ⟨Y, -, hZ⟩, hx⟩ := arrAt_at (rd0 c W) 2 t (flush0_2 t) (ix2 p j) (ix2 r j) (in0_2 t p j r hr) X h (fun u hu _ => ⟨0, .inl (by
    show r.val < win0_2.index u 0 * 256
    rw [(idx0_2 u).1]; omega)⟩)
  have hx' : X (ix2 r j) = Z (ix2 p j) := hx
  obtain ⟨d0, d1, rfl⟩ := hZ
  rw [hx', Pay.pay0]
  have e0 : (fun k => fet cfg0 W 0 t d0 (ix2 p k)) = fun k => hid W (ix2 r k) := funext fun k => fet_at cfg0 W 0 t d0 _ _ (in0_0 t p k r hr)
  have e1 : (fun k => fet cfg0 W 1 t d1 (ix2 (0 : Fin 1) k)) = fun k => wNorm1 W (ix2 0 k) := funext fun k => fet_at cfg0 W 1 t d1 _ _ (in0_1 t k)
  rw [← e0, ← e1]

/-! ## Region 1 -/

theorem idx1_0 : ∀ t : Fin cfg1.N, win1_0.index t 0 = t.val % 8 ∧ win1_0.index t 1 = 0 := by decide +kernel
theorem idx1_1 : ∀ t : Fin cfg1.N, win1_1.index t 0 = t.val / 8 ∧ win1_1.index t 1 = 0 := by decide +kernel
theorem idx1_2 : ∀ t : Fin cfg1.N, win1_2.index t 0 = 0 ∧ win1_2.index t 1 = t.val / 8 := by decide +kernel
theorem idx1_3 : ∀ t : Fin cfg1.N, win1_3.index t 0 = t.val % 8 ∧ win1_3.index t 1 = t.val / 8 := by decide +kernel
theorem idx1_4 : ∀ t : Fin cfg1.N, win1_4.index t 0 = t.val % 8 ∧ win1_4.index t 1 = t.val / 8 := by decide +kernel
theorem idx1_5 : ∀ t : Fin cfg1.N, win1_5.index t 0 = t.val % 8 ∧ win1_5.index t 1 = t.val / 8 := by decide +kernel

theorem in1_0 (t : Fin cfg1.N) (p : Fin 256) (k : Fin 4096) (r : Fin 2048) (hr : r.val = t.val % 8 * 256 + p.val) :
    InBlk cfg1 0 t (ix2 p k) (ix2 r k) := by
  have hi := idx1_0 t
  intro a
  match a with
  | ⟨0, _⟩ => exact ⟨p.isLt, by show r.val = win1_0.index t 0 * 256 + p.val; omega⟩
  | ⟨1, _⟩ => exact ⟨k.isLt, by show k.val = win1_0.index t 1 * 4096 + k.val; omega⟩

theorem in1_1 (t : Fin cfg1.N) (j : Fin 512) (k : Fin 4096) (n : Fin 4608) (hn : n.val = t.val / 8 * 512 + j.val) :
    InBlk cfg1 1 t (ix2 j k) (ix2 n k) := by
  have hi := idx1_1 t
  intro a
  match a with
  | ⟨0, _⟩ => exact ⟨j.isLt, by show n.val = win1_1.index t 0 * 512 + j.val; omega⟩
  | ⟨1, _⟩ => exact ⟨k.isLt, by show k.val = win1_1.index t 1 * 4096 + k.val; omega⟩

theorem in1_2 (t : Fin cfg1.N) (j : Fin 512) (n : Fin 4608) (hn : n.val = t.val / 8 * 512 + j.val) :
    InBlk cfg1 2 t (ix2 (0 : Fin 1) j) (ix2 (0 : Fin 1) n) := by
  have hi := idx1_2 t
  intro a
  match a with
  | ⟨0, _⟩ => exact ⟨Nat.one_pos, by show 0 = win1_2.index t 0 * 1 + 0; omega⟩
  | ⟨1, _⟩ => exact ⟨j.isLt, by show n.val = win1_2.index t 1 * 512 + j.val; omega⟩

theorem in1_3 (t : Fin cfg1.N) (p : Fin 256) (j : Fin 512) (r : Fin 2048) (n : Fin 4608) (hr : r.val = t.val % 8 * 256 + p.val) (hn : n.val = t.val / 8 * 512 + j.val) :
    InBlk cfg1 3 t (ix2 p j) (ix2 r n) := by
  have hi := idx1_3 t
  intro a
  match a with
  | ⟨0, _⟩ => exact ⟨p.isLt, by show r.val = win1_3.index t 0 * 256 + p.val; omega⟩
  | ⟨1, _⟩ => exact ⟨j.isLt, by show n.val = win1_3.index t 1 * 512 + j.val; omega⟩

theorem in1_4 (t : Fin cfg1.N) (p : Fin 256) (j : Fin 512) (r : Fin 2048) (n : Fin 4608) (hr : r.val = t.val % 8 * 256 + p.val) (hn : n.val = t.val / 8 * 512 + j.val) :
    InBlk cfg1 4 t (ix2 p j) (ix2 r n) := by
  have hi := idx1_4 t
  intro a
  match a with
  | ⟨0, _⟩ => exact ⟨p.isLt, by show r.val = win1_4.index t 0 * 256 + p.val; omega⟩
  | ⟨1, _⟩ => exact ⟨j.isLt, by show n.val = win1_4.index t 1 * 512 + j.val; omega⟩

theorem in1_5 (t : Fin cfg1.N) (p : Fin 256) (j : Fin 512) (r : Fin 2048) (n : Fin 4608) (hr : r.val = t.val % 8 * 256 + p.val) (hn : n.val = t.val / 8 * 512 + j.val) :
    InBlk cfg1 5 t (ix2 p j) (ix2 r n) := by
  have hi := idx1_5 t
  intro a
  match a with
  | ⟨0, _⟩ => exact ⟨p.isLt, by show r.val = win1_5.index t 0 * 256 + p.val; omega⟩
  | ⟨1, _⟩ => exact ⟨j.isLt, by show n.val = win1_5.index t 1 * 512 + j.val; omega⟩

/-- Region 1 leaves the projection of the row, the two columns of each pair combined by the tables. -/
theorem val1 (c : Dev nD) (W : V) (X : Vec Ideal S2048x4608 .bf16) (h : (rd1 c W).ArrAt 5 cfg1.N X) (r : Fin 2048) (n : Fin 4608) :
    X (ix2 r n) = Model.proj (fun k => norm1 W (ix2 r k)) (fun n k => wQkv W (ix2 n k)) (fun n => bQkv W (ix2 0 n)) n * cosT W (ix2 r n)
      + Model.proj (fun k => norm1 W (ix2 r k)) (fun n k => wQkv W (ix2 n k)) (fun n => bQkv W (ix2 0 n)) (Model.swap n) * sinT W (ix2 r n) := by
  have hN : cfg1.N = 72 := N_1
  obtain ⟨t, p, j, hr, hn⟩ : ∃ (t : Fin cfg1.N) (p : Fin 256) (j : Fin 512), r.val = t.val % 8 * 256 + p.val ∧ n.val = t.val / 8 * 512 + j.val :=
    ⟨⟨n.val / 512 * 8 + r.val / 256, by omega⟩, ⟨r.val % 256, by omega⟩, ⟨n.val % 512, by omega⟩,
      by show r.val = (n.val / 512 * 8 + r.val / 256) % 8 * 256 + r.val % 256; omega, by show n.val = (n.val / 512 * 8 + r.val / 256) / 8 * 512 + n.val % 512; omega⟩
  obtain ⟨Z, ⟨Y, -, hZ⟩, hx⟩ := arrAt_at (rd1 c W) 5 t (flush1_5 t) (ix2 p j) (ix2 r n) (in1_5 t p j r n hr hn) X h (fun u hu _ => by
    have hi := idx1_5 u
    by_cases hc : t.val / 8 < u.val / 8
    · exact ⟨1, .inl (by show n.val < win1_5.index u 1 * 512; omega)⟩
    · exact ⟨0, .inl (by show r.val < win1_5.index u 0 * 256; omega)⟩)
  have hx' : X (ix2 r n) = Z (ix2 p j) := hx
  obtain ⟨d0, d1, d2, d3, d4, rfl⟩ := hZ
  have hf : (Model.swap n).val = t.val / 8 * 512 + (Pay.flip j).val := by
    have hj := j.isLt
    have hlt := n.isLt
    unfold Model.swap Pay.flip
    by_cases hp : j.val % 2 = 0
    · rw [if_pos hp, if_pos (by omega)]
      show (n.val + 1) % 4608 = t.val / 8 * 512 + (j.val + 1) % 512
      omega
    · rw [if_neg hp, if_neg (by omega)]
      show n.val - 1 = t.val / 8 * 512 + (j.val - 1)
      omega
  rw [hx', Pay.pay1]
  unfold Model.proj
  have e0 (k) : fet cfg1 W 0 t d0 (ix2 p k) = norm1 W (ix2 r k) := fet_at cfg1 W 0 t d0 _ _ (in1_0 t p k r hr)
  have e1 (j : Fin 512) (n : Fin 4608) (hn : n.val = t.val / 8 * 512 + j.val) (k) : fet cfg1 W 1 t d1 (ix2 j k) = wQkv W (ix2 n k) := fet_at cfg1 W 1 t d1 _ _ (in1_1 t j k n hn)
  have e2 (j : Fin 512) (n : Fin 4608) (hn : n.val = t.val / 8 * 512 + j.val) : fet cfg1 W 2 t d2 (ix2 (0 : Fin 1) j) = bQkv W (ix2 0 n) := fet_at cfg1 W 2 t d2 _ _ (in1_2 t j n hn)
  have e3 : fet cfg1 W 3 t d3 (ix2 p j) = cosT W (ix2 r n) := fet_at cfg1 W 3 t d3 _ _ (in1_3 t p j r n hr hn)
  have e4 : fet cfg1 W 4 t d4 (ix2 p j) = sinT W (ix2 r n) := fet_at cfg1 W 4 t d4 _ _ (in1_4 t p j r n hr hn)
  refine congrArg₂ (fun a b : EReal => a + b) (congrArg₂ (fun a b : EReal => a * b) ?_ e3) (congrArg₂ (fun a b : EReal => a * b) ?_ e4)
  · exact congrArg₂ (fun a b : EReal => a + b) (Finset.sum_congr rfl fun k _ => congrArg₂ (fun a b : EReal => a * b) (e0 k) (e1 j n hn k)) (e2 j n hn)
  · exact congrArg₂ (fun a b : EReal => a + b) (Finset.sum_congr rfl fun k _ => congrArg₂ (fun a b : EReal => a * b) (e0 k) (e1 _ _ hf k)) (e2 _ _ hf)

end Cert.KernelIdeal.Val

end
-- ==== Proof.KernelIdealAttnPay.lean ====
/- What one step of the attention's loop computes of its blocks, element by element, over the extended reals. -/
module

public import proofs.«01_k».proof.Proof.Model
public import proofs.«01_k».proof.Proof.KernelIdealPay
public import Idealize.ShloMosaic.Lib.Pointwise
public import Idealize.ShloMosaic.PureOps.Ideal

@[expose] public section

set_option maxRecDepth 16384

noncomputable section

namespace Cert.KernelIdeal.AttnPay

open Cert.KernelIdeal Cert.KernelIdeal.Gen
open Idealize.ShloMosaic

/-- The mask is −∞. -/
theorem mask : Named.named (F := Ideal) κ "mask" (φ := .f32) 0xF149F2CA#32 = ⊥ := rfl

/-- A selection by a signed comparison the other way of words below 2³¹ is one by a comparison of numbers. -/
theorem select_sge {α : Type} (a b : BitVec 32) (ha : a.toNat < 2 ^ 31) (hb : b.toNat < 2 ^ 31) (x y : α) :
    Scalar.select (IntOp.cmpi .sge a b) x y = if b.toNat ≤ a.toNat then x else y := by
  have e : IntOp.cmpi .sge a b = BitVec.ofBool (b.sle a) := rfl
  rw [e, Pay.select_bool]
  refine if_congr ?_ rfl rfl
  rw [BitVec.sle_iff_toInt_le, BitVec.toInt_eq_toNat_of_lt (by omega), BitVec.toInt_eq_toNat_of_lt (by omega)]
  omega

/-- Before the first block the maximum is −∞, … -/
theorem init_max (p : Fin 256) : k2_pay2 (F := Ideal) (ix2 p 0) = ⊥ := by
  unfold k2_pay2
  pointwise
  exact mask

/-- … the sum of the weights 0 … -/
theorem init_den (p : Fin 256) : k2_pay3 (F := Ideal) (ix2 p 0) = 0 := by
  unfold k2_pay3
  pointwise

/-- … and the weighted sum 0. -/
theorem init_num (p : Fin 256) (d : Fin 128) : k2_pay4 (F := Ideal) (ix2 p d) = 0 := by
  unfold k2_pay4
  pointwise

/-- The block's masked scores. -/
theorem scores (i : grid2.Coords) (q : Vec Ideal S256x128 .bf16) (t : Fin (k2_t1_loop i).trips) (ht : t.val < 8) (kk : Vec Ideal S256x128 .bf16) (p s : Fin 256) :
    k2_pay5 (F := Ideal) i q t kk (ix2 p s)
      = if t.val * 256 + s.val ≤ (i 1).val * 256 + p.val then (∑ d, q (ix2 p d) * kk (ix2 s d)) * Ideal.ofBits .f32 0x3DB504F3#32 else ⊥ := by
  unfold k2_pay5 k2_pay1
  pointwise
  have hi : (i 1).val < 8 := (i 1).isLt
  have ea : (IntOp.addi (Scalar.muli (BitVec.ofNat 32 ↑(i 1)) 256#32) (BitVec.ofNat 32 ↑p)).toNat = (i 1).val * 256 + p.val := by
    simp only [IntOp.addi, Scalar.muli, IntOp.muli, BitVec.toNat_add, BitVec.toNat_mul, BitVec.toNat_ofNat]
    omega
  have eb : (IntOp.addi (Scalar.muli (Scf.iv 0#32 1#32 t.val) 256#32) (BitVec.ofNat 32 ↑s)).toNat = t.val * 256 + s.val := by
    simp only [Scf.iv, IntOp.addi, Scalar.muli, IntOp.muli, BitVec.toNat_add, BitVec.toNat_mul, BitVec.toNat_ofNat]
    omega
  rw [select_sge _ _ (by rw [ea]; omega) (by rw [eb]; omega), ea, eb, mask]

/-- The maximum after the block. -/
theorem new_max (i : grid2.Coords) (q : Vec Ideal S256x128 .bf16) (t : Fin (k2_t1_loop i).trips) (m : FVec Ideal S256x1 .f32) (kk : Vec Ideal S256x128 .bf16) (p : Fin 256) :
    k2_pay6 (F := Ideal) i q t m kk (ix2 p 0) = max (m (ix2 p 0)) (Finset.univ.sup fun s : Fin 256 => k2_pay5 (F := Ideal) i q t kk (ix2 p s)) := by
  unfold k2_pay6
  pointwise
  exact congrArg (max _) (Softmax.fold_max _ _)

/-- The sum of the weights after it. -/
theorem new_den (i : grid2.Coords) (q : Vec Ideal S256x128 .bf16) (t : Fin (k2_t1_loop i).trips) (m l : FVec Ideal S256x1 .f32) (kk : Vec Ideal S256x128 .bf16) (p : Fin 256) :
    k2_pay9 (F := Ideal) i q t m l kk (ix2 p 0)
      = l (ix2 p 0) * Ideal.exp (m (ix2 p 0) - k2_pay6 (F := Ideal) i q t m kk (ix2 p 0))
        + ∑ s : Fin 256, Ideal.exp (k2_pay5 (F := Ideal) i q t kk (ix2 p s) - k2_pay6 (F := Ideal) i q t m kk (ix2 p 0)) := by
  unfold k2_pay9 k2_pay8 k2_pay7
  pointwise

/-- The weighted sum after it. -/
theorem new_num (i : grid2.Coords) (q : Vec Ideal S256x128 .bf16) (t : Fin (k2_t1_loop i).trips) (m : FVec Ideal S256x1 .f32) (a : FVec Ideal S256x128 .f32)
    (kk vv : Vec Ideal S256x128 .bf16) (p : Fin 256) (d : Fin 128) :
    k2_pay10 (F := Ideal) i q t m a kk vv (ix2 p d)
      = a (ix2 p d) * Ideal.exp (m (ix2 p 0) - k2_pay6 (F := Ideal) i q t m kk (ix2 p 0))
        + ∑ s : Fin 256, Ideal.exp (k2_pay5 (F := Ideal) i q t kk (ix2 p s) - k2_pay6 (F := Ideal) i q t m kk (ix2 p 0)) * vv (ix2 s d) := by
  unfold k2_pay10 k2_pay8 k2_pay7
  pointwise

/-- The quotient at the end. -/
theorem quotient (l : FVec Ideal S256x1 .f32) (a : FVec Ideal S256x128 .f32) (p : Fin 256) (d : Fin 128) :
    k2_pay17 (F := Ideal) l a (ix2 p d) = Ideal.div (a (ix2 p d)) (l (ix2 p 0)) := by
  unfold k2_pay17
  pointwise

end Cert.KernelIdeal.AttnPay

end
-- ==== Proof.KernelIdealValAttn.lean ====
/- What the attention leaves, element by element, over the extended reals. -/
module

public import proofs.«01_k».proof.Proof.KernelIdealVal
public import proofs.«01_k».proof.Proof.KernelIdealAttnPay

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline
open Cert.Region

/-! ## Region 2 -/

theorem idx2_0 : ∀ t : Fin cfg2.N, win2_0.index t 0 = t.val % 8 ∧ win2_0.index t 1 = t.val / 8 := by decide +kernel
theorem idx2_1 : ∀ t : Fin cfg2.N, win2_1.index t 0 = 0 ∧ win2_1.index t 1 = 32 + t.val / 8 / 16 := by decide +kernel
theorem idx2_2 : ∀ t : Fin cfg2.N, win2_2.index t 0 = 0 ∧ win2_2.index t 1 = 34 + t.val / 8 / 16 := by decide +kernel
theorem idx2_3 : ∀ t : Fin cfg2.N, win2_3.index t 0 = t.val % 8 ∧ win2_3.index t 1 = t.val / 8 := by decide +kernel
theorem co2 : ∀ t : Fin cfg2.N, (grid2.coords t 1).val = t.val % 8 := by decide +kernel

theorem in2_0 (t : Fin cfg2.N) (p : Fin 256) (d : Fin 128) (r : Fin 2048) (n : Fin 4608) (hr : r.val = t.val % 8 * 256 + p.val) (hn : n.val = t.val / 8 * 128 + d.val) :
    InBlk cfg2 0 t (ix2 p d) (ix2 r n) := by
  have hi := idx2_0 t
  intro a
  match a with
  | ⟨0, _⟩ => exact ⟨p.isLt, by show r.val = win2_0.index t 0 * 256 + p.val; omega⟩
  | ⟨1, _⟩ => exact ⟨d.isLt, by show n.val = win2_0.index t 1 * 128 + d.val; omega⟩

theorem in2_1 (t : Fin cfg2.N) (s : Fin 2048) (d : Fin 128) (n : Fin 4608) (hn : n.val = (32 + t.val / 8 / 16) * 128 + d.val) :
    InBlk cfg2 1 t (ix2 s d) (ix2 s n) := by
  have hi := idx2_1 t
  intro a
  match a with
  | ⟨0, _⟩ => exact ⟨s.isLt, by show s.val = win2_1.index t 0 * 2048 + s.val; omega⟩
  | ⟨1, _⟩ => exact ⟨d.isLt, by show n.val = win2_1.index t 1 * 128 + d.val; omega⟩

theorem in2_2 (t : Fin cfg2.N) (s : Fin 2048) (d : Fin 128) (n : Fin 4608) (hn : n.val = (34 + t.val / 8 / 16) * 128 + d.val) :
    InBlk cfg2 2 t (ix2 s d) (ix2 s n) := by
  have hi := idx2_2 t
  intro a
  match a with
  | ⟨0, _⟩ => exact ⟨s.isLt, by show s.val = win2_2.index t 0 * 2048 + s.val; omega⟩
  | ⟨1, _⟩ => exact ⟨d.isLt, by show n.val = win2_2.index t 1 * 128 + d.val; omega⟩

theorem in2_3 (t : Fin cfg2.N) (p : Fin 256) (d : Fin 128) (r : Fin 2048) (n : Fin 4096) (hr : r.val = t.val % 8 * 256 + p.val) (hn : n.val = t.val / 8 * 128 + d.val) :
    InBlk cfg2 3 t (ix2 p d) (ix2 r n) := by
  have hi := idx2_3 t
  intro a
  match a with
  | ⟨0, _⟩ => exact ⟨p.isLt, by show r.val = win2_3.index t 0 * 256 + p.val; omega⟩
  | ⟨1, _⟩ => exact ⟨d.isLt, by show n.val = win2_3.index t 1 * 128 + d.val; omega⟩

/-- The rows of a loop's step. -/
theorem rows_at (i : grid2.Coords) (j : Fin (k2_t1_loop i).trips) (x : Vec Ideal S2048x128 .bf16) (s : Fin 256) (d : Fin 128) (k : Fin 2048) (hk : k.val = j.val * 256 + s.val) :
    Attn.rows (F := Ideal) i j x (ix2 s d) = x (ix2 k d) := by
  have hi : (i 1).val < 8 := (i 1).isLt
  have hj : j.val < (i 1).val + 1 := lt_of_lt_of_eq j.isLt (Attn.trips1 i)
  have ho : (Scalar.indexCast (Scalar.muli (Scf.iv 0#32 1#32 j.val) 256#32) : BitVec 32).toNat = j.val * 256 := by
    show (Scalar.muli (Scf.iv 0#32 1#32 j.val) 256#32).toNat = _
    simp only [Scf.iv, Scalar.muli, IntOp.muli, BitVec.toNat_add, BitVec.toNat_mul, BitVec.toNat_ofNat]
    omega
  unfold Attn.rows
  refine congrArg x (funext fun a => Fin.ext ?_)
  match a with
  | ⟨0, _⟩ =>
    show (Scalar.indexCast (Scalar.muli (Scf.iv 0#32 1#32 j.val) 256#32) : BitVec 32).toNat + 1 * s.val = k.val
    rw [ho]; omega
  | ⟨1, _⟩ => show 0 + 1 * d.val = d.val; omega

/-- The loop carries the maximum, the sum of the weights and the weighted sum of the rows so far. -/
theorem state_at (i : grid2.Coords) (q : Vec Ideal S256x128 .bf16) (kk vv : Vec Ideal S2048x128 .bf16) (p : Fin 256) (S : ℕ → EReal) (U : Fin 128 → ℕ → EReal)
    (hS : ∀ k : Fin 2048, S k.val = if k.val ≤ (i 1).val * 256 + p.val then (∑ d, q (ix2 p d) * kk (ix2 k d)) * Ideal.ofBits .f32 0x3DB504F3#32 else ⊥)
    (hU : ∀ (d : Fin 128) (k : Fin 2048), U d k.val = vv (ix2 k d)) (j : ℕ) (hj : j ≤ (i 1).val + 1) :
    (Attn.state (F := Ideal) i q kk vv j).1 (ix2 p 0) = Softmax.top S (j * 256)
      ∧ (Attn.state (F := Ideal) i q kk vv j).2.1 (ix2 p 0) = Softmax.den S (j * 256)
      ∧ ∀ d, (Attn.state (F := Ideal) i q kk vv j).2.2 (ix2 p d) = Softmax.num S (U d) (j * 256) := by
  induction j with
  | zero =>
    refine ⟨(AttnPay.init_max p).trans ?_, (AttnPay.init_den p).trans ?_, fun d => (AttnPay.init_num p d).trans ?_⟩
    · unfold Softmax.top; rw [Nat.zero_mul, Finset.range_zero, Finset.sup_empty]
    · unfold Softmax.den; rw [Nat.zero_mul, Finset.range_zero, Finset.sum_empty]
    · unfold Softmax.num; rw [Nat.zero_mul, Finset.range_zero, Finset.sum_empty]
  | succ j ih =>
    obtain ⟨h1, h2, h3⟩ := ih (by omega)
    have hi : (i 1).val < 8 := (i 1).isLt
    have hlt : j < (k2_t1_loop i).trips := lt_of_lt_of_eq (by omega) (Attn.trips1 i).symm
    have est : Attn.state (F := Ideal) i q kk vv (j + 1) = Attn.step i q kk vv ⟨j, hlt⟩ (Attn.state i q kk vv j) := Attn.state_succ i q kk vv ⟨j, hlt⟩
    have sc (s : Fin 256) : k2_pay5 (F := Ideal) i q ⟨j, hlt⟩ (Attn.rows i ⟨j, hlt⟩ kk) (ix2 p s) = S (j * 256 + s.val) := by
      rw [AttnPay.scores i q ⟨j, hlt⟩ (by show j < 8; omega)]
      refine Eq.trans ?_ (hS ⟨j * 256 + s.val, by omega⟩).symm
      refine if_congr Iff.rfl ?_ rfl
      refine congrArg (fun a : EReal => a * _) (Finset.sum_congr rfl fun d _ => congrArg (fun a : EReal => _ * a) ?_)
      exact rows_at i ⟨j, hlt⟩ kk s d ⟨j * 256 + s.val, by omega⟩ rfl
    have mx : k2_pay6 (F := Ideal) i q ⟨j, hlt⟩ (Attn.state (F := Ideal) i q kk vv j).1 (Attn.rows i ⟨j, hlt⟩ kk) (ix2 p 0) = Softmax.top S (j * 256 + 256) := by
      rw [AttnPay.new_max, h1, Softmax.top_add]
      simp only [sc]
    rw [est, show (j + 1) * 256 = j * 256 + 256 by ring]
    refine ⟨mx, ?_, fun d => ?_⟩
    · refine (AttnPay.new_den i q ⟨j, hlt⟩ _ _ _ p).trans ?_
      rw [mx, h1, h2, Softmax.den_add]
      simp only [sc]
    · refine (AttnPay.new_num i q ⟨j, hlt⟩ _ _ _ _ p d).trans ?_
      rw [mx, h1, h3, Softmax.num_add]
      refine congrArg (fun a : EReal => _ + a) (Finset.sum_congr rfl fun s _ => ?_)
      rw [sc]
      refine congrArg₂ (fun a b : EReal => a * b) rfl ?_
      exact (rows_at i ⟨j, hlt⟩ vv s d ⟨j * 256 + s.val, by omega⟩ rfl).trans (hU d ⟨j * 256 + s.val, by omega⟩).symm

/-- Region 2 leaves the accumulated quotient of the head's row. -/
theorem val2 (c : Dev nD) (W : V) (X : Vec Ideal S2048x4096 .bf16) (h : (rd2 c W).ArrAt 3 cfg2.N X) (r : Fin 2048) (hh : Fin 32) (d : Fin 128) (n : Fin 4096)
    (hn : n.val = hh.val * 128 + d.val) (z : Fin 2048 → Fin 4608 → EReal) (hz : ∀ r n, turned W (ix2 r n) = z r n) :
    X (ix2 r n) = Ideal.div (Softmax.num (Softmax.ext ⊥ (Model.score z hh r)) (Softmax.ext 0 fun s => z s (Model.vcol hh d)) ((r.val / 256 + 1) * 256))
      (Softmax.den (Softmax.ext ⊥ (Model.score z hh r)) ((r.val / 256 + 1) * 256)) := by
  have hN : cfg2.N = 256 := N_2
  obtain ⟨t, p, hr, ht⟩ : ∃ (t : Fin cfg2.N) (p : Fin 256), r.val = t.val % 8 * 256 + p.val ∧ hh.val = t.val / 8 :=
    ⟨⟨hh.val * 8 + r.val / 256, by omega⟩, ⟨r.val % 256, by omega⟩,
      by show r.val = (hh.val * 8 + r.val / 256) % 8 * 256 + r.val % 256; omega, by show hh.val = (hh.val * 8 + r.val / 256) / 8; omega⟩
  obtain ⟨Z, ⟨Y, -, hZ⟩, hx⟩ := arrAt_at (rd2 c W) 3 t (flush2_3 t) (ix2 p d) (ix2 r n) (in2_3 t p d r n hr (by omega)) X h (fun u hu _ => by
    have hi := idx2_3 u
    by_cases hc : t.val / 8 < u.val / 8
    · exact ⟨1, .inl (by show n.val < win2_3.index u 1 * 128; omega)⟩
    · exact ⟨0, .inl (by show r.val < win2_3.index u 0 * 256; omega)⟩)
  have hx' : X (ix2 r n) = Z (ix2 p d) := hx
  obtain ⟨d0, d1, d2, rfl⟩ := hZ
  have ht8 : (grid2.coords t 1).val = t.val % 8 := co2 t
  have e0 (d) : fet cfg2 W 0 t d0 (ix2 p d) = z r (Model.qcol hh d) :=
    (fet_at cfg2 W 0 t d0 _ _ (in2_0 t p d r (Model.qcol hh d) hr (by show hh.val * 128 + d.val = _; omega))).trans (hz _ _)
  have e1 (s d) : fet cfg2 W 1 t d1 (ix2 s d) = z s (Model.kcol hh d) :=
    (fet_at cfg2 W 1 t d1 _ _ (in2_1 t s d (Model.kcol hh d) (by show 4096 + hh.val / 16 * 128 + d.val = _; rw [ht]; omega))).trans (hz _ _)
  have e2 (s d) : fet cfg2 W 2 t d2 (ix2 s d) = z s (Model.vcol hh d) :=
    (fet_at cfg2 W 2 t d2 _ _ (in2_2 t s d (Model.vcol hh d) (by show 4352 + hh.val / 16 * 128 + d.val = _; rw [ht]; omega))).trans (hz _ _)
  have st := state_at (grid2.coords t) (fet cfg2 W 0 t d0) (fet cfg2 W 1 t d1) (fet cfg2 W 2 t d2) p (Softmax.ext ⊥ (Model.score z hh r)) (fun d => Softmax.ext 0 fun s => z s (Model.vcol hh d))
    (fun k => by
      rw [Softmax.ext_val]
      unfold Model.score
      refine if_congr (by rw [ht8, hr]) ?_ rfl
      exact congrArg (fun a : EReal => a * _) (Finset.sum_congr rfl fun d _ => (congrArg₂ (fun a b : EReal => a * b) (e0 d) (e1 k d)).symm))
    (fun d k => by rw [Softmax.ext_val]; exact (e2 k d).symm) ((grid2.coords t 1).val + 1) le_rfl
  rw [hx']
  unfold Attn.out
  rw [AttnPay.quotient, Attn.trips1, st.2.1, st.2.2 d, ht8, show r.val / 256 = t.val % 8 by omega]

end Cert.KernelIdeal.Val

end
-- ==== Proof.KernelIdealValDense.lean ====
/- What the dense product and the second norm leave, element by element, over the extended reals. -/
module

public import proofs.«01_k».proof.Proof.KernelIdealVal

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline
open Cert.Region

/-! ## Region 3 -/

theorem idx3_0 : ∀ t : Fin cfg3.N, win3_0.index t 0 = t.val % 8 ∧ win3_0.index t 1 = 0 := by decide +kernel
theorem idx3_1 : ∀ t : Fin cfg3.N, win3_1.index t 0 = t.val / 8 ∧ win3_1.index t 1 = 0 := by decide +kernel
theorem idx3_2 : ∀ t : Fin cfg3.N, win3_2.index t 0 = t.val % 8 ∧ win3_2.index t 1 = t.val / 8 := by decide +kernel
theorem idx3_3 : ∀ t : Fin cfg3.N, win3_3.index t 0 = t.val % 8 ∧ win3_3.index t 1 = t.val / 8 := by decide +kernel

theorem in3_0 (t : Fin cfg3.N) (p : Fin 256) (k : Fin 4096) (r : Fin 2048) (hr : r.val = t.val % 8 * 256 + p.val) :
    InBlk cfg3 0 t (ix2 p k) (ix2 r k) := by
  have hi := idx3_0 t
  intro a
  match a with
  | ⟨0, _⟩ => exact ⟨p.isLt, by show r.val = win3_0.index t 0 * 256 + p.val; omega⟩
  | ⟨1, _⟩ => exact ⟨k.isLt, by show k.val = win3_0.index t 1 * 4096 + k.val; omega⟩

theorem in3_1 (t : Fin cfg3.N) (j : Fin 512) (k : Fin 4096) (n : Fin 4096) (hn : n.val = t.val / 8 * 512 + j.val) :
    InBlk cfg3 1 t (ix2 j k) (ix2 n k) := by
  have hi := idx3_1 t
  intro a
  match a with
  | ⟨0, _⟩ => exact ⟨j.isLt, by show n.val = win3_1.index t 0 * 512 + j.val; omega⟩
  | ⟨1, _⟩ => exact ⟨k.isLt, by show k.val = win3_1.index t 1 * 4096 + k.val; omega⟩

theorem in3_2 (t : Fin cfg3.N) (p : Fin 256) (j : Fin 512) (r : Fin 2048) (n : Fin 4096) (hr : r.val = t.val % 8 * 256 + p.val) (hn : n.val = t.val / 8 * 512 + j.val) :
    InBlk cfg3 2 t (ix2 p j) (ix2 r n) := by
  have hi := idx3_2 t
  intro a
  match a with
  | ⟨0, _⟩ => exact ⟨p.isLt, by show r.val = win3_2.index t 0 * 256 + p.val; omega⟩
  | ⟨1, _⟩ => exact ⟨j.isLt, by show n.val = win3_2.index t 1 * 512 + j.val; omega⟩

theorem in3_3 (t : Fin cfg3.N) (p : Fin 256) (j : Fin 512) (r : Fin 2048) (n : Fin 4096) (hr : r.val = t.val % 8 * 256 + p.val) (hn : n.val = t.val / 8 * 512 + j.val) :
    InBlk cfg3 3 t (ix2 p j) (ix2 r n) := by
  have hi := idx3_3 t
  intro a
  match a with
  | ⟨0, _⟩ => exact ⟨p.isLt, by show r.val = win3_3.index t 0 * 256 + p.val; omega⟩
  | ⟨1, _⟩ => exact ⟨j.isLt, by show n.val = win3_3.index t 1 * 512 + j.val; omega⟩

/-- Region 3 leaves the residual and the dense product of the row. -/
theorem val3 (c : Dev nD) (W : V) (X : Vec Ideal S2048x4096 .bf16) (h : (rd3 c W).ArrAt 3 cfg3.N X) (r : Fin 2048) (n : Fin 4096) :
    X (ix2 r n) = hid W (ix2 r n) + ∑ k, ctx W (ix2 r k) * wDense W (ix2 n k) := by
  have hN : cfg3.N = 64 := N_3
  obtain ⟨t, p, j, hr, hn⟩ : ∃ (t : Fin cfg3.N) (p : Fin 256) (j : Fin 512), r.val = t.val % 8 * 256 + p.val ∧ n.val = t.val / 8 * 512 + j.val :=
    ⟨⟨n.val / 512 * 8 + r.val / 256, by omega⟩, ⟨r.val % 256, by omega⟩, ⟨n.val % 512, by omega⟩,
      by show r.val = (n.val / 512 * 8 + r.val / 256) % 8 * 256 + r.val % 256; omega, by show n.val = (n.val / 512 * 8 + r.val / 256) / 8 * 512 + n.val % 512; omega⟩
  obtain ⟨Z, ⟨Y, -, hZ⟩, hx⟩ := arrAt_at (rd3 c W) 3 t (flush3_3 t) (ix2 p j) (ix2 r n) (in3_3 t p j r n hr hn) X h (fun u hu _ => by
    have hi := idx3_3 u
    by_cases hc : t.val / 8 < u.val / 8
    · exact ⟨1, .inl (by show n.val < win3_3.index u 1 * 512; omega)⟩
    · exact ⟨0, .inl (by show r.val < win3_3.index u 0 * 256; omega)⟩)
  have hx' : X (ix2 r n) = Z (ix2 p j) := hx
  obtain ⟨d0, d1, d2, rfl⟩ := hZ
  rw [hx', Pay.pay3]
  refine congrArg₂ (fun a b : EReal => a + b) (fet_at cfg3 W 2 t d2 _ _ (in3_2 t p j r n hr hn)) (Finset.sum_congr rfl fun k _ => ?_)
  exact congrArg₂ (fun a b : EReal => a * b) (fet_at cfg3 W 0 t d0 _ _ (in3_0 t p k r hr)) (fet_at cfg3 W 1 t d1 _ _ (in3_1 t j k n hn))

theorem idx4_0 : ∀ t : Fin cfg4.N, win4_0.index t 0 = t.val ∧ win4_0.index t 1 = 0 := by decide +kernel
theorem idx4_1 : ∀ t : Fin cfg4.N, win4_1.index t 0 = 0 ∧ win4_1.index t 1 = 0 := by decide +kernel
theorem idx4_2 : ∀ t : Fin cfg4.N, win4_2.index t 0 = t.val ∧ win4_2.index t 1 = 0 := by decide +kernel

/-! ## Region 4 -/

theorem in4_0 (t : Fin cfg4.N) (p : Fin 256) (j : Fin 4096) (r : Fin 2048) (hr : r.val = t.val * 256 + p.val) :
    InBlk cfg4 0 t (ix2 p j) (ix2 r j) := by
  intro a
  match a with
  | ⟨0, _⟩ => exact ⟨p.isLt, by show r.val = win4_0.index t 0 * 256 + p.val; rw [(idx4_0 t).1]; exact hr⟩
  | ⟨1, _⟩ => exact ⟨j.isLt, by show j.val = win4_0.index t 1 * 4096 + j.val; rw [(idx4_0 t).2]; omega⟩

theorem in4_1 (t : Fin cfg4.N) (j : Fin 4096) : InBlk cfg4 1 t (ix2 (0 : Fin 1) j) (ix2 (0 : Fin 1) j) := by
  intro a
  match a with
  | ⟨0, _⟩ => exact ⟨Nat.one_pos, by show 0 = win4_1.index t 0 * 1 + 0; rw [(idx4_1 t).1]⟩
  | ⟨1, _⟩ => exact ⟨j.isLt, by show j.val = win4_1.index t 1 * 4096 + j.val; rw [(idx4_1 t).2]; omega⟩

theorem in4_2 (t : Fin cfg4.N) (p : Fin 256) (j : Fin 4096) (r : Fin 2048) (hr : r.val = t.val * 256 + p.val) :
    InBlk cfg4 2 t (ix2 p j) (ix2 r j) := by
  intro a
  match a with
  | ⟨0, _⟩ => exact ⟨p.isLt, by show r.val = win4_2.index t 0 * 256 + p.val; rw [(idx4_2 t).1]; exact hr⟩
  | ⟨1, _⟩ => exact ⟨j.isLt, by show j.val = win4_2.index t 1 * 4096 + j.val; rw [(idx4_2 t).2]; omega⟩

/-- Region 4 leaves the RMS norm of each row. -/
theorem val4 (c : Dev nD) (W : V) (X : Vec Ideal S2048x4096 .bf16) (h : (rd4 c W).ArrAt 2 cfg4.N X) (r : Fin 2048) (j : Fin 4096) :
    X (ix2 r j) = Model.rms (fun k => xIn W (ix2 r k)) (fun k => wNorm W (ix2 0 k)) j := by
  have hN : cfg4.N = 8 := N_4
  obtain ⟨t, p, hr⟩ : ∃ (t : Fin cfg4.N) (p : Fin 256), r.val = t.val * 256 + p.val :=
    ⟨⟨r.val / 256, by omega⟩, ⟨r.val % 256, by omega⟩, by show r.val = r.val / 256 * 256 + r.val % 256; omega⟩
  obtain ⟨Z, ⟨Y, -, hZ⟩, hx⟩ := arrAt_at (rd4 c W) 2 t (flush4_2 t) (ix2 p j) (ix2 r j) (in4_2 t p j r hr) X h (fun u hu _ => ⟨0, .inl (by
    show r.val < win4_2.index u 0 * 256
    rw [(idx4_2 u).1]; omega)⟩)
  have hx' : X (ix2 r j) = Z (ix2 p j) := hx
  obtain ⟨d0, d1, rfl⟩ := hZ
  rw [hx', Pay.pay4]
  have e0 : (fun k => fet cfg4 W 0 t d0 (ix2 p k)) = fun k => xIn W (ix2 r k) := funext fun k => fet_at cfg4 W 0 t d0 _ _ (in4_0 t p k r hr)
  have e1 : (fun k => fet cfg4 W 1 t d1 (ix2 (0 : Fin 1) k)) = fun k => wNorm W (ix2 0 k) := funext fun k => fet_at cfg4 W 1 t d1 _ _ (in4_1 t k)
  rw [← e0, ← e1]

end Cert.KernelIdeal.Val

end
-- ==== Proof.KernelIdealValMlp.lean ====
/- What the two regions of the gated product leave, element by element, over the extended reals. -/
module

public import proofs.«01_k».proof.Proof.KernelIdealVal

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline
open Cert.Region

/-! ## Region 5 -/

theorem idx5_0 : ∀ t : Fin cfg5.N, win5_0.index t 0 = 0 ∧ win5_0.index t 1 = 0 := by decide +kernel
theorem idx5_1 : ∀ t : Fin cfg5.N, win5_1.index t 0 = 0 ∧ win5_1.index t 1 = t.val ∧ win5_1.index t 2 = 0 := by decide +kernel
theorem idx5_2 : ∀ t : Fin cfg5.N, win5_2.index t 0 = 1 ∧ win5_2.index t 1 = t.val ∧ win5_2.index t 2 = 0 := by decide +kernel
theorem idx5_3 : ∀ t : Fin cfg5.N, win5_3.index t 0 = 0 ∧ win5_3.index t 1 = t.val := by decide +kernel
theorem co5 : ∀ t : Fin cfg5.N, (grid5.coords t 0).val = t.val := by decide +kernel
theorem xs5_1 : ∀ t : Fin cfg5.N, win5_1.xsize (grid5.coords t) 0 = 1 ∧ win5_1.xsize (grid5.coords t) 1 = min 256 (13696 - t.val * 256) ∧ win5_1.xsize (grid5.coords t) 2 = 4096 := by decide +kernel
theorem xs5_2 : ∀ t : Fin cfg5.N, win5_2.xsize (grid5.coords t) 0 = 1 ∧ win5_2.xsize (grid5.coords t) 1 = min 256 (13696 - t.val * 256) ∧ win5_2.xsize (grid5.coords t) 2 = 4096 := by decide +kernel

theorem in5_0 (t : Fin cfg5.N) (r : Fin 2048) (j : Fin 4096) : InBlk cfg5 0 t (ix2 r j) (ix2 r j) := by
  intro a
  match a with
  | ⟨0, _⟩ => exact ⟨r.isLt, by show r.val = win5_0.index t 0 * 2048 + r.val; rw [(idx5_0 t).1]; omega⟩
  | ⟨1, _⟩ => exact ⟨j.isLt, by show j.val = win5_0.index t 1 * 4096 + j.val; rw [(idx5_0 t).2]; omega⟩

theorem in5_1 (t : Fin cfg5.N) (p : Fin 256) (k : Fin 4096) (q : Fin 13696) (hq : q.val = t.val * 256 + p.val) :
    InBlk cfg5 1 t (ix3 (0 : Fin 1) p k) (ix3 (0 : Fin 2) q k) := by
  have hx := xs5_1 t
  have hi := idx5_1 t
  intro a
  match a with
  | ⟨0, _⟩ => exact ⟨by show 0 < win5_1.xsize (grid5.coords t) 0; omega, by show 0 = win5_1.index t 0 * 1 + 0; omega⟩
  | ⟨1, _⟩ => exact ⟨by show p.val < win5_1.xsize (grid5.coords t) 1; omega, by show q.val = win5_1.index t 1 * 256 + p.val; omega⟩
  | ⟨2, _⟩ => exact ⟨by show k.val < win5_1.xsize (grid5.coords t) 2; omega, by show k.val = win5_1.index t 2 * 4096 + k.val; omega⟩

theorem in5_2 (t : Fin cfg5.N) (p : Fin 256) (k : Fin 4096) (q : Fin 13696) (hq : q.val = t.val * 256 + p.val) :
    InBlk cfg5 2 t (ix3 (0 : Fin 1) p k) (ix3 (1 : Fin 2) q k) := by
  have hx := xs5_2 t
  have hi := idx5_2 t
  intro a
  match a with
  | ⟨0, _⟩ => exact ⟨by show 0 < win5_2.xsize (grid5.coords t) 0; omega, by show 1 = win5_2.index t 0 * 1 + 0; omega⟩
  | ⟨1, _⟩ => exact ⟨by show p.val < win5_2.xsize (grid5.coords t) 1; omega, by show q.val = win5_2.index t 1 * 256 + p.val; omega⟩
  | ⟨2, _⟩ => exact ⟨by show k.val < win5_2.xsize (grid5.coords t) 2; omega, by show k.val = win5_2.index t 2 * 4096 + k.val; omega⟩

theorem in5_3 (t : Fin cfg5.N) (r : Fin 2048) (p : Fin 256) (q : Fin 13824) (hq : q.val = t.val * 256 + p.val) :
    InBlk cfg5 3 t (ix2 r p) (ix2 r q) := by
  have hi := idx5_3 t
  intro a
  match a with
  | ⟨0, _⟩ => exact ⟨r.isLt, by show r.val = win5_3.index t 0 * 2048 + r.val; omega⟩
  | ⟨1, _⟩ => exact ⟨p.isLt, by show q.val = win5_3.index t 1 * 256 + p.val; omega⟩

/-- Region 5 leaves the gated product of the row with the two halves' rows. -/
theorem val5 (c : Dev nD) (W : V) (X : Vec Ideal S2048x13824 .bf16) (h : (rd5 c W).ArrAt 3 cfg5.N X) (r : Fin 2048) (q : Fin 13824) (q' : Fin 13696)
    (hq' : q.val = q'.val) :
    X (ix2 r q) = Model.gated (fun k => norm W (ix2 r k)) (fun k => wUp W (ix3 0 q' k)) (fun k => wUp W (ix3 1 q' k)) := by
  have hN : cfg5.N = 54 := N_5
  obtain ⟨t, p, hq⟩ : ∃ (t : Fin cfg5.N) (p : Fin 256), q.val = t.val * 256 + p.val :=
    ⟨⟨q.val / 256, by omega⟩, ⟨q.val % 256, by omega⟩, by show q.val = q.val / 256 * 256 + q.val % 256; omega⟩
  obtain ⟨Z, ⟨Y, -, hZ⟩, hx⟩ := arrAt_at (rd5 c W) 3 t (flush5_3 t) (ix2 r p) (ix2 r q) (in5_3 t r p q hq) X h (fun u hu _ => ⟨1, .inl (by
    show q.val < win5_3.index u 1 * 256
    rw [(idx5_3 u).2]; omega)⟩)
  have hx' : X (ix2 r q) = Z (ix2 r p) := hx
  obtain ⟨d0, d1, d2, rfl⟩ := hZ
  rw [hx', Pay.pay5, if_pos (by rw [co5]; omega)]
  have e0 : (fun k => fet cfg5 W 0 t d0 (ix2 r k)) = fun k => norm W (ix2 r k) := funext fun k => fet_at cfg5 W 0 t d0 _ _ (in5_0 t r k)
  have e1 : (fun k => fet cfg5 W 1 t d1 (ix3 (0 : Fin 1) p k)) = fun k => wUp W (ix3 0 q' k) := funext fun k => fet_at cfg5 W 1 t d1 _ _ (in5_1 t p k q' (hq' ▸ hq))
  have e2 : (fun k => fet cfg5 W 2 t d2 (ix3 (0 : Fin 1) p k)) = fun k => wUp W (ix3 1 q' k) := funext fun k => fet_at cfg5 W 2 t d2 _ _ (in5_2 t p k q' (hq' ▸ hq))
  rw [← e0, ← e1, ← e2]

/-! ## Region 6 -/

theorem idx6_0 : ∀ t : Fin cfg6.N, win6_0.index t 0 = 0 ∧ win6_0.index t 1 = t.val % 12 := by decide +kernel
theorem idx6_1 : ∀ t : Fin cfg6.N, win6_1.index t 0 = t.val / 12 ∧ win6_1.index t 1 = t.val % 12 := by decide +kernel
theorem idx6_2 : ∀ t : Fin cfg6.N, win6_2.index t 0 = 0 ∧ win6_2.index t 1 = t.val / 12 := by decide +kernel
theorem idx6_3 : ∀ t : Fin cfg6.N, win6_3.index t 0 = 0 ∧ win6_3.index t 1 = t.val / 12 := by decide +kernel
theorem co6 : ∀ t : Fin cfg6.N, (grid6.coords t 1).val = t.val % 12 := by decide +kernel
theorem xs6_1 : ∀ t : Fin cfg6.N, win6_1.xsize (grid6.coords t) 0 = 1024 ∧ win6_1.xsize (grid6.coords t) 1 = min 1152 (13696 - t.val % 12 * 1152) := by decide +kernel
theorem fetch6_3 : ∀ t : Fin cfg6.N, (cfg6.win 3).fetch t = false := by decide +kernel

theorem in6_0 (t : Fin cfg6.N) (r : Fin 2048) (p : Fin 1152) (q : Fin 13824) (hq : q.val = t.val % 12 * 1152 + p.val) :
    InBlk cfg6 0 t (ix2 r p) (ix2 r q) := by
  have hi := idx6_0 t
  intro a
  match a with
  | ⟨0, _⟩ => exact ⟨r.isLt, by show r.val = win6_0.index t 0 * 2048 + r.val; omega⟩
  | ⟨1, _⟩ => exact ⟨p.isLt, by show q.val = win6_0.index t 1 * 1152 + p.val; omega⟩

theorem in6_1 (t : Fin cfg6.N) (j : Fin 1024) (p : Fin 1152) (n : Fin 4096) (q : Fin 13696) (hn : n.val = t.val / 12 * 1024 + j.val)
    (hq : q.val = t.val % 12 * 1152 + p.val) : InBlk cfg6 1 t (ix2 j p) (ix2 n q) := by
  have hi := idx6_1 t
  have hx := xs6_1 t
  intro a
  match a with
  | ⟨0, _⟩ => exact ⟨by show j.val < win6_1.xsize (grid6.coords t) 0; omega, by show n.val = win6_1.index t 0 * 1024 + j.val; omega⟩
  | ⟨1, _⟩ => exact ⟨by show p.val < win6_1.xsize (grid6.coords t) 1; omega, by show q.val = win6_1.index t 1 * 1152 + p.val; omega⟩

theorem in6_2 (t : Fin cfg6.N) (r : Fin 2048) (j : Fin 1024) (n : Fin 4096) (hn : n.val = t.val / 12 * 1024 + j.val) :
    InBlk cfg6 2 t (ix2 r j) (ix2 r n) := by
  have hi := idx6_2 t
  intro a
  match a with
  | ⟨0, _⟩ => exact ⟨r.isLt, by show r.val = win6_2.index t 0 * 2048 + r.val; omega⟩
  | ⟨1, _⟩ => exact ⟨j.isLt, by show n.val = win6_2.index t 1 * 1024 + j.val; omega⟩

theorem in6_3 (t : Fin cfg6.N) (r : Fin 2048) (j : Fin 1024) (n : Fin 4096) (hn : n.val = t.val / 12 * 1024 + j.val) :
    InBlk cfg6 3 t (ix2 r j) (ix2 r n) := by
  have hi := idx6_3 t
  intro a
  match a with
  | ⟨0, _⟩ => exact ⟨r.isLt, by show r.val = win6_3.index t 0 * 2048 + r.val; omega⟩
  | ⟨1, _⟩ => exact ⟨j.isLt, by show n.val = win6_3.index t 1 * 1024 + j.val; omega⟩

/-- The product at column `q`, zero beyond the array of weights. -/
def term (W : V) (r : Fin 2048) (n : Fin 4096) (q : ℕ) : EReal :=
  if h : q < 13696 then gate W (ix2 r (⟨q, by omega⟩ : Fin 13824)) * wDown W (ix2 n (⟨q, h⟩ : Fin 13696)) else 0

/-- After the point's product the output's buffer holds the residual and the products of the columns so far. -/
theorem part6 (c : Dev nD) (W : V) (m : ℕ) : ∀ (t : Fin cfg6.N) (X : Vec Ideal S2048x1024 .f32), t.val % 12 = m → (rd6 c W).Leaves 3 t X →
    ∀ (r : Fin 2048) (j : Fin 1024) (n : Fin 4096), n.val = t.val / 12 * 1024 + j.val →
      X (ix2 r j) = xIn W (ix2 r n) + ∑ q ∈ Finset.range ((m + 1) * 1152), term W r n q := by
  induction m with
  | zero =>
    intro t X ht ⟨Y, hY, hX⟩ r j n hn
    obtain ⟨d0, d1, d2, rfl⟩ := hX
    rw [Pay.pay6, if_pos (by rw [co6]; exact ht)]
    rw [show fet cfg6 W 2 t d2 (ix2 r j) = xIn W (ix2 r n) from fet_at cfg6 W 2 t d2 _ _ (in6_2 t r j n hn)]
    rw [show (0 + 1) * 1152 = 1152 from rfl, Finset.sum_range]
    congr 1
    refine Finset.sum_congr rfl fun p _ => ?_
    rw [co6, ht]
    unfold term
    have hp := p.isLt
    rw [if_pos (by omega), dif_pos (by omega)]
    rw [show fet cfg6 W 0 t d0 (ix2 r p) = gate W (ix2 r (⟨p.val, by omega⟩ : Fin 13824)) from fet_at cfg6 W 0 t d0 _ _ (in6_0 t r p _ (by show p.val = _; omega)),
      show fet cfg6 W 1 t d1 (ix2 j p) = wDown W (ix2 n (⟨p.val, by omega⟩ : Fin 13696)) from fet_at cfg6 W 1 t d1 _ _ (in6_1 t j p n _ hn (by show p.val = _; omega))]
  | succ m ih =>
    intro t X ht ⟨Y, hY, hX⟩ r j n hn
    have htN := t.isLt
    have hY' := (RDat.finds_of_pos (rd6 c W) (fetch6_3 t) (by omega) Y).mp hY
    rcases hY' with hfl | hY'
    · have := (flush6_3 _).mp hfl
      simp only at this; omega
    have hYv := ih ⟨t.val - 1, by omega⟩ Y (by show (t.val - 1) % 12 = m; omega) hY' r j n (by show n.val = (t.val - 1) / 12 * 1024 + j.val; omega)
    obtain ⟨d0, d1, d2, rfl⟩ := hX
    rw [Pay.pay6, if_neg (by rw [co6]; omega), hYv]
    rw [show (m + 1 + 1) * 1152 = (m + 1) * 1152 + 1152 by ring, Finset.sum_range_add, add_assoc]
    congr 2
    rw [Finset.sum_range]
    refine Finset.sum_congr rfl fun p _ => ?_
    rw [co6, ht]
    unfold term
    by_cases hp : (m + 1) * 1152 + p.val < 13696
    · rw [if_pos hp, dif_pos hp]
      rw [show fet cfg6 W 0 t d0 (ix2 r p) = gate W (ix2 r (⟨(m + 1) * 1152 + p.val, by omega⟩ : Fin 13824)) from
          fet_at cfg6 W 0 t d0 _ _ (in6_0 t r p _ (by show (m + 1) * 1152 + p.val = _; rw [ht])),
        show fet cfg6 W 1 t d1 (ix2 j p) = wDown W (ix2 n (⟨(m + 1) * 1152 + p.val, hp⟩ : Fin 13696)) from
          fet_at cfg6 W 1 t d1 _ _ (in6_1 t j p n _ hn (by show (m + 1) * 1152 + p.val = _; rw [ht]))]
    · rw [if_neg hp, dif_neg hp]

/-- Region 6 leaves the residual and the product with the second weights. -/
theorem val6 (c : Dev nD) (W : V) (X : Vec Ideal S2048x4096 .f32) (h : (rd6 c W).ArrAt 3 cfg6.N X) (r : Fin 2048) (n : Fin 4096) :
    X (ix2 r n) = xIn W (ix2 r n) + ∑ q : Fin 13696, gate W (ix2 r (⟨q.val, by omega⟩ : Fin 13824)) * wDown W (ix2 n q) := by
  have hN : cfg6.N = 48 := N_6
  obtain ⟨t, j, hn, ht⟩ : ∃ (t : Fin cfg6.N) (j : Fin 1024), n.val = t.val / 12 * 1024 + j.val ∧ t.val % 12 = 11 :=
    ⟨⟨n.val / 1024 * 12 + 11, by omega⟩, ⟨n.val % 1024, by omega⟩, by
      show n.val = (n.val / 1024 * 12 + 11) / 12 * 1024 + n.val % 1024; omega, by show (n.val / 1024 * 12 + 11) % 12 = 11; omega⟩
  obtain ⟨Z, hZ, hx⟩ := arrAt_at (rd6 c W) 3 t ((flush6_3 t).mpr ht) (ix2 r j) (ix2 r n) (in6_3 t r j n hn) X h (fun u hu hfu => ⟨1, .inl (by
    show n.val < win6_3.index u 1 * 1024
    have := (flush6_3 u).mp hfu
    rw [(idx6_3 u).2]; omega)⟩)
  have hx' : X (ix2 r n) = Z (ix2 r j) := hx
  rw [hx', part6 c W 11 t Z ht hZ r j n hn]
  refine congrArg (fun s => xIn W (ix2 r n) + s) ?_
  have hz : ∑ q ∈ Finset.range 128, term W r n (13696 + q) = 0 := Finset.sum_eq_zero fun q _ => dif_neg (Nat.not_lt.mpr (Nat.le_add_right _ _))
  calc ∑ q ∈ Finset.range ((11 + 1) * 1152), term W r n q = ∑ q ∈ Finset.range (13696 + 128), term W r n q := by
        rw [show (11 + 1) * 1152 = 13696 + 128 by norm_num]
    _ = ∑ q ∈ Finset.range 13696, term W r n q := by rw [Finset.sum_range_add, hz, add_zero]
    _ = _ := by
        rw [Finset.sum_range]
        exact Finset.sum_congr rfl fun q _ => dif_pos q.isLt

end Cert.KernelIdeal.Val

end
-- ==== Proof.Finite.lean ====
/- From finite weights of the norm, the projection to q and k and the rotation, the scores of the attention are real numbers: no row's maximum is infinite, so the blocks' softmax is the whole row's. -/
module

public import proofs.«01_k».proof.Proof.Model

@[expose] public section

noncomputable section

namespace Cert.Finite

open Idealize.ShloMosaic

/-- A real number among the extended reals. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} (t : Finset ι) (f : ι → EReal) (h : ∀ i, IsReal (f i)) : IsReal (∑ i ∈ t, f i) :=
  Finset.sum_induction f IsReal (fun _ _ => IsReal.add) ⟨0, rfl⟩ fun i _ => h i
theorem IsReal.ne_top {x : EReal} : IsReal x → x ≠ ⊤ := by rintro ⟨a, rfl⟩; exact EReal.coe_ne_top a
theorem IsReal.ne_bot {x : EReal} : IsReal x → x ≠ ⊥ := by rintro ⟨a, rfl⟩; exact EReal.coe_ne_bot a

/-- A number whose absolute value lies below +∞ is real. -/
theorem of_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x with
  | bot => simp at h'
  | top => simp at h'
  | coe a => exact ⟨a, rfl⟩

theorem word_4096 : Ideal.ofBits .f32 0x45800000#32 = ((4096 : ℝ) : EReal) := by
  simp [Ideal.ofBits, Ideal.ieee]
  rw [← EReal.coe_mul]
  norm_num
theorem word_eps : ∃ e : ℝ, 0 < e ∧ Ideal.ofBits .f32 0x3727C5AC#32 = (e : EReal) :=
  ⟨10995116 * (2 ^ 40 : ℝ)⁻¹, by norm_num, by
    simp [Ideal.ofBits, Ideal.ieee]⟩
theorem word_scale : IsReal (Ideal.ofBits .f32 0x3DB504F3#32) := by
  refine ⟨11863283 * (2 ^ 27 : ℝ)⁻¹, ?_⟩
  simp [Ideal.ofBits, Ideal.ieee]

theorem sq_nonneg (x : EReal) : 0 ≤ x * x := by
  induction x with
  | bot => rw [EReal.bot_mul_bot]; exact le_top
  | top => rw [EReal.top_mul_top]; exact le_top
  | coe a => rw [← EReal.coe_mul]; exact EReal.coe_nonneg.mpr (mul_self_nonneg a)

/-- A row with an infinite entry has an infinite mean square, and the inverse root of it is zero. -/
theorem rsqrt_top {n : Nat} (x : Fin n → EReal) (k : Fin n) (hk : x k = ⊤ ∨ x k = ⊥) :
    Ideal.rsqrt (Ideal.div (∑ k, x k * x k) (Ideal.ofBits .f32 0x45800000#32) + Ideal.ofBits .f32 0x3727C5AC#32) = 0 := by
  obtain ⟨e, he, hE⟩ := word_eps
  have hkk : x k * x k = ⊤ := by
    rcases hk with h | h <;> rw [h]
    · exact EReal.top_mul_top
    · exact EReal.bot_mul_bot
  have hs : (∑ k, x k * x k) = ⊤ := by
    rw [← Finset.add_sum_erase _ _ (Finset.mem_univ k), hkk]
    exact EReal.top_add_of_ne_bot (ne_of_gt (lt_of_lt_of_le EReal.bot_lt_zero (Finset.sum_nonneg fun i _ => sq_nonneg (x i))))
  rw [hs, word_4096, hE]
  unfold Ideal.div
  rw [if_neg (by intro h; exact absurd (EReal.coe_eq_zero.mp h) (by norm_num)), ← EReal.coe_inv, EReal.top_mul_coe_of_pos (by norm_num), EReal.top_add_coe]
  rfl

/-- The norm of any row with real weights is real: the mean square is not negative, and where it is infinite the normed row is zero. -/
theorem rms {n : Nat} (x w : Fin n → EReal) (hw : ∀ k, IsReal (w k)) (j : Fin n) : IsReal (Model.rms x w j) := by
  by_cases hx : ∀ k, IsReal (x k)
  swap
  · obtain ⟨k, hk⟩ := not_forall.mp hx
    have hk' : x k = ⊤ ∨ x k = ⊥ := by
      rcases h : x k with _ | _ | a
      · exact Or.inr rfl
      · exact Or.inl rfl
      · exact absurd ⟨a, h⟩ hk
    refine ⟨0, ?_⟩
    unfold Model.rms
    rw [rsqrt_top x k hk', mul_zero, zero_mul]
    rfl
  choose a ha using hx
  obtain ⟨e, he, hE⟩ := word_eps
  have hs : (∑ k, x k * x k) = ((∑ k, a k * a k : ℝ) : EReal) := by
    simp only [ha]
    induction (Finset.univ : Finset (Fin n)) using Finset.induction_on with
    | empty => simp
    | insert i t hi ih => rw [Finset.sum_insert hi, Finset.sum_insert hi, ih, EReal.coe_add, EReal.coe_mul]
  have hn : 0 ≤ ∑ k, a k * a k := Finset.sum_nonneg fun k _ => mul_self_nonneg (a k)
  have hd : Ideal.div (∑ k, x k * x k) (Ideal.ofBits .f32 0x45800000#32) = (((∑ k, a k * a k) * (4096 : ℝ)⁻¹ : ℝ) : EReal) := by
    rw [hs, word_4096]
    unfold Ideal.div
    rw [if_neg (by intro h; exact absurd (EReal.coe_eq_zero.mp h) (by norm_num)), EReal.coe_mul, EReal.coe_inv]
  have hr : IsReal (Ideal.rsqrt (Ideal.div (∑ k, x k * x k) (Ideal.ofBits .f32 0x45800000#32) + Ideal.ofBits .f32 0x3727C5AC#32)) := by
    rw [hd, hE, ← EReal.coe_add]
    have hp : 0 < (∑ k, a k * a k) * (4096 : ℝ)⁻¹ + e := by positivity
    refine ⟨(Real.sqrt ((∑ k, a k * a k) * (4096 : ℝ)⁻¹ + e))⁻¹, ?_⟩
    show (if _ < 0 then (⊥ : EReal) else if _ = 0 then ⊤ else _) = _
    rw [if_neg (not_lt.mpr hp.le), if_neg hp.ne']
  exact (IsReal.mul ⟨a j, ha j⟩ hr).mul (hw j)

theorem proj (l : Fin 4096 → EReal) (wq : Fin 4608 → Fin 4096 → EReal) (b : Fin 4608 → EReal) (hl : ∀ k, IsReal (l k))
    (n : Fin 4608) (hq : ∀ k, IsReal (wq n k)) (hb : IsReal (b n)) : IsReal (Model.proj l wq b n) :=
  (IsReal.sum _ _ fun k => (hl k).mul (hq k)).add hb

/-- The pair of a column of q or k lies in q or k. -/
theorem swap_lt (n : Fin 4608) (hn : n.val < 4352) : (Model.swap n).val < 4352 := by
  unfold Model.swap
  split
  · show (n.val + 1) % 4608 < 4352; omega
  · show n.val - 1 < 4352; omega

theorem rope (y : Fin 4608 → EReal) (c : Fin 32 → Fin 2 → EReal) (hy : ∀ n : Fin 4608, n.val < 4352 → IsReal (y n)) (hc : ∀ p e, IsReal (c p e)) (n : Fin 4608) (hn : n.val < 4352) :
    IsReal (Model.rope y c n) := by
  unfold Model.rope
  split
  · split
    · exact ((hy _ hn).mul (hc _ _)).sub ((hy _ (swap_lt n hn)).mul (hc _ _))
    · exact ((hy _ hn).mul (hc _ _)).add ((hy _ (swap_lt n hn)).mul (hc _ _))
  · exact hy n hn

/-- The columns of q and k are real, whatever the row and the columns of v. -/
theorem qkv (x : Fin 2048 → Fin 4096 → EReal) (c : Fin 2048 → Fin 32 → Fin 2 → EReal) (w : Fin 4096 → EReal) (wq : Fin 4608 → Fin 4096 → EReal) (b : Fin 4608 → EReal)
    (hc : ∀ r p e, IsReal (c r p e)) (hw : ∀ k, IsReal (w k)) (hq : ∀ n : Fin 4608, n.val < 4352 → ∀ k, IsReal (wq n k)) (hb : ∀ n : Fin 4608, n.val < 4352 → IsReal (b n))
    (r : Fin 2048) (n : Fin 4608) (hn : n.val < 4352) : IsReal (Model.qkv x c w wq b r n) :=
  rope _ _ (fun n hn => proj _ _ _ (fun k => rms _ _ hw k) n (hq n hn) (hb n hn)) (hc r) n hn

theorem qcol_lt (h : Fin 32) (d : Fin 128) : (Model.qcol h d).val < 4352 := by show h.val * 128 + d.val < 4352; omega
theorem kcol_lt (h : Fin 32) (d : Fin 128) : (Model.kcol h d).val < 4352 := by show 4096 + h.val / 16 * 128 + d.val < 4352; omega

/-- No score of real rows is +∞, … -/
theorem score_ne_top (z : Fin 2048 → Fin 4608 → EReal) (hz : ∀ r (n : Fin 4608), n.val < 4352 → IsReal (z r n)) (h : Fin 32) (r s : Fin 2048) : Model.score z h r s ≠ ⊤ := by
  unfold Model.score
  split
  · exact ((IsReal.sum _ _ fun d => (hz _ _ (qcol_lt _ _)).mul (hz _ _ (kcol_lt _ _))).mul word_scale).ne_top
  · exact bot_ne_top

/-- … and the first row's is not −∞. -/
theorem score_ne_bot (z : Fin 2048 → Fin 4608 → EReal) (hz : ∀ r (n : Fin 4608), n.val < 4352 → IsReal (z r n)) (h : Fin 32) (r : Fin 2048) : Model.score z h r ⟨0, by omega⟩ ≠ ⊥ := by
  unfold Model.score
  rw [if_pos (Nat.zero_le _)]
  exact ((IsReal.sum _ _ fun d => (hz _ _ (qcol_lt _ _)).mul (hz _ _ (kcol_lt _ _))).mul word_scale).ne_bot

/-- The blocks up to the row's own give the attention's result. -/
theorem blocks (z : Fin 2048 → Fin 4608 → EReal) (hz : ∀ r (n : Fin 4608), n.val < 4352 → IsReal (z r n)) (h : Fin 32) (r : Fin 2048) (d : Fin 128) :
    Ideal.div (Softmax.num (Softmax.ext ⊥ (Model.score z h r)) (Softmax.ext 0 fun s => z s (Model.vcol h d)) ((r.val / 256 + 1) * 256))
      (Softmax.den (Softmax.ext ⊥ (Model.score z h r)) ((r.val / 256 + 1) * 256)) = Model.attend z r h d :=
  Softmax.soft_eq _ _ _ (by omega) (by omega) (fun k hk => if_neg (by omega)) (score_ne_bot z hz h r) (score_ne_top z hz h r)

end Cert.Finite

end
-- ==== Proof.KernelIdealEnd.lean ====
/- The kernel's result, element by element, over the extended reals: the regions' values composed. -/
module

public import proofs.«01_k».proof.Proof.KernelIdealHost
public import proofs.«01_k».proof.Proof.KernelIdealValQkv
public import proofs.«01_k».proof.Proof.KernelIdealValAttn
public import proofs.«01_k».proof.Proof.KernelIdealValDense
public import proofs.«01_k».proof.Proof.KernelIdealValMlp
public import proofs.«01_k».proof.Proof.Finite

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline
open Cert.Region Cert.Finite

/-- A host stretch of one operation keeps the buffers it does not write. -/
theorem host1_ne (W : V) (r : Ref sig .tc) (h : r ≠ main_v30) : StableHlo.after (hostOps1 (F := Ideal)) W (Proc.devRef .tc r) = W (Proc.devRef .tc r) :=
  StableHlo.after_of_writes_sub hostOps1 _ hostOps1_writes (List.not_mem_cons_of_ne_of_not_mem h List.not_mem_nil)
theorem host4_ne (W : V) (r : Ref sig .tc) (h : r ≠ main_v34) : StableHlo.after (hostOps4 (F := Ideal)) W (Proc.devRef .tc r) = W (Proc.devRef .tc r) :=
  StableHlo.after_of_writes_sub hostOps4 _ hostOps4_writes (List.not_mem_cons_of_ne_of_not_mem h List.not_mem_nil)
theorem host5_ne (W : V) (r : Ref sig .tc) (h : r ≠ main_v36) : StableHlo.after (hostOps5 (F := Ideal)) W (Proc.devRef .tc r) = W (Proc.devRef .tc r) :=
  StableHlo.after_of_writes_sub hostOps5 _ hostOps5_writes (List.not_mem_cons_of_ne_of_not_mem h List.not_mem_nil)

/-- A region keeps every buffer but its result. -/
theorem upd_ne (W : V) (a r : Ref sig .tc) (h : r ≠ a) (X) : Function.update W (Proc.devRef .tc a) X (Proc.devRef .tc r) = W (Proc.devRef .tc r) :=
  Function.update_of_ne (StableHlo.devRef_ne_of_ne h) _ _

set_option maxHeartbeats 4000000 in
/-- The kernel's result is the layer's formula of the arguments, when the weights before the attention are finite (of the projection, those to q and k). -/
theorem ends (m : (ℓ : Loc nD τ sig) → Buf (Elt Ideal) ℓ) (c : Dev nD) (W : V) (h : Whole.P12 m c W)
    (x : Fin 2048 → Fin 4096 → EReal) (co : Fin 2048 → Fin 32 → Fin 2 → EReal) (w1 : Fin 4096 → EReal) (wq : Fin 4608 → Fin 4096 → EReal) (b : Fin 4608 → EReal)
    (wo : Fin 4096 → Fin 4096 → EReal) (w2 : Fin 4096 → EReal) (wu : Fin 27392 → Fin 4096 → EReal) (wd : Fin 4096 → Fin 13696 → EReal)
    (e0 : ∀ r k, (m ((c.tc : Thread nD τ).loc main_arg0) : Vec Ideal S2048x1x4096 .f32) (ix3 r 0 k) = x r k)
    (e1 : ∀ r p e, (m ((c.tc : Thread nD τ).loc main_arg1) : Vec Ideal S2048x32x2 .f32) (ix3 r p e) = co r p e)
    (e2 : ∀ k, (m ((c.tc : Thread nD τ).loc main_arg2) : Vec Ideal S4096 .f32) (ix1 k) = w1 k)
    (e3 : ∀ n k, (m ((c.tc : Thread nD τ).loc main_arg3) : Vec Ideal S4608x4096 .f32) (ix2 n k) = wq n k)
    (e4 : ∀ n, (m ((c.tc : Thread nD τ).loc main_arg4) : Vec Ideal S4608 .f32) (ix1 n) = b n)
    (e5 : ∀ n k, (m ((c.tc : Thread nD τ).loc main_arg5) : Vec Ideal S4096x4096 .f32) (ix2 n k) = wo n k)
    (e6 : ∀ k, (m ((c.tc : Thread nD τ).loc main_arg6) : Vec Ideal S4096 .f32) (ix1 k) = w2 k)
    (e7 : ∀ n k, (m ((c.tc : Thread nD τ).loc main_arg7) : Vec Ideal S27392x4096 .f32) (ix2 n k) = wu n k)
    (e8 : ∀ n q, (m ((c.tc : Thread nD τ).loc main_arg8) : Vec Ideal S4096x13696 .f32) (ix2 n q) = wd n q)
    (fc : ∀ r p e, IsReal (co r p e)) (fw : ∀ k, IsReal (w1 k)) (fq : ∀ n : Fin 4608, n.val < 4352 → ∀ k, IsReal (wq n k)) (fb : ∀ n : Fin 4608, n.val < 4352 → IsReal (b n))
    (r : Fin 2048) (n : Fin 4096) :
    (W (Proc.devRef .tc main_v39) : Vec Ideal S2048x1x4096 .f32) (ix3 r 0 n) = Model.layer x co w1 wq b wo w2 wu wd r n := by
  obtain ⟨W11, ⟨W10, X10, ⟨W9, X9, ⟨W8, ⟨W7, X7, ⟨W6, ⟨W5, X5, ⟨W4, X4, ⟨W3, X3, ⟨W2, ⟨W1, X1, ⟨W0, hW0, h1⟩, A1, h2⟩, h3⟩, A3, h4⟩, A4, h5⟩, A5, h6⟩, h7⟩, A7, h8⟩, h9⟩, A9, h10⟩, A10, h11⟩, h12⟩ := h
  -- the arrays each item finds
  have a1 (b : Ref sig .tc) (hb : b ∉ hostOps0_W) : W1 (Proc.devRef .tc b) = W0 (Proc.devRef .tc b) := by
    rw [h1]; exact StableHlo.after_of_writes_sub hostOps0 _ hostOps0_writes hb
  have a2 (b : Ref sig .tc) (hb : b ≠ main_v29) : W2 (Proc.devRef .tc b) = W1 (Proc.devRef .tc b) := by rw [h2]; exact upd_ne W1 main_v29 b hb X1
  have a3 (b : Ref sig .tc) (hb : b ≠ main_v30) : W3 (Proc.devRef .tc b) = W2 (Proc.devRef .tc b) := by rw [h3]; exact host1_ne W2 b hb
  have a4 (b : Ref sig .tc) (hb : b ≠ main_v31) : W4 (Proc.devRef .tc b) = W3 (Proc.devRef .tc b) := by rw [h4]; exact upd_ne W3 main_v31 b hb X3
  have a5 (b : Ref sig .tc) (hb : b ≠ main_v32) : W5 (Proc.devRef .tc b) = W4 (Proc.devRef .tc b) := by rw [h5]; exact upd_ne W4 main_v32 b hb X4
  have a6 (b : Ref sig .tc) (hb : b ≠ main_v33) : W6 (Proc.devRef .tc b) = W5 (Proc.devRef .tc b) := by rw [h6]; exact upd_ne W5 main_v33 b hb X5
  have a7 (b : Ref sig .tc) (hb : b ≠ main_v34) : W7 (Proc.devRef .tc b) = W6 (Proc.devRef .tc b) := by rw [h7]; exact host4_ne W6 b hb
  have a8 (b : Ref sig .tc) (hb : b ≠ main_v35) : W8 (Proc.devRef .tc b) = W7 (Proc.devRef .tc b) := by rw [h8]; exact upd_ne W7 main_v35 b hb X7
  have a9 (b : Ref sig .tc) (hb : b ≠ main_v36) : W9 (Proc.devRef .tc b) = W8 (Proc.devRef .tc b) := by rw [h9]; exact host5_ne W8 b hb
  have a10 (b : Ref sig .tc) (hb : b ≠ main_v37) : W10 (Proc.devRef .tc b) = W9 (Proc.devRef .tc b) := by rw [h10]; exact upd_ne W9 main_v37 b hb X9
  have m0 (b : Ref sig .tc) : W0 (Proc.devRef .tc b) = m ((c.tc : Thread nD τ).loc b) := congrFun hW0 (Proc.devRef .tc b)
  -- the first norm
  have hid1 (r k) : hid W1 (ix2 r k) = x r k := by
    rw [h1, host0_hid]; exact (congrFun (m0 main_arg0) (ix3 r 0 k)).trans (e0 r k)
  have n1 (k) : wNorm1 W1 (ix2 0 k) = w1 k := by
    rw [h1, host0_norm]; exact (congrFun (m0 main_arg2) (ix1 k)).trans (e2 k)
  have v29 (r j) : X1 (ix2 r j) = Model.rms (x r) w1 j :=
    (val0 c W1 X1 A1 r j).trans (congrArg₂ (fun a b => Model.rms a b j) (funext fun k => hid1 r k) (funext fun k => n1 k))
  -- the rotated projections
  have p3 : (fun (r : Fin 2048) (k : Fin 4096) => norm1 W3 (ix2 r k)) = fun r => Model.rms (x r) w1 := by
    have e : norm1 W3 = X1 := (a3 main_v29 (by decide)).trans (by rw [h2]; exact Function.update_self _ _ _)
    funext r k; rw [e]; exact v29 r k
  have q3 : (fun (n : Fin 4608) (k : Fin 4096) => wQkv W3 (ix2 n k)) = wq := by
    have e : wQkv W3 = m ((c.tc : Thread nD τ).loc main_arg3) := (a3 _ (by decide)).trans ((a2 _ (by decide)).trans ((a1 main_arg3 (by decide)).trans (m0 main_arg3)))
    funext n k; rw [e]; exact e3 n k
  have b3 : (fun (n : Fin 4608) => bQkv W3 (ix2 0 n)) = b := by
    funext n; rw [h3, host1_bias]
    exact (congrFun ((a2 _ (by decide)).trans ((a1 main_arg4 (by decide)).trans (m0 main_arg4))) (ix1 n)).trans (e4 n)
  have c3 (r n) : cosT W3 (ix2 r n) = if Model.Turned n.val then co r (Model.pair n.val) 0 else 1 := by
    have e : cosT W3 = cosT W1 := (a3 main_v22 (by decide)).trans (a2 main_v22 (by decide))
    rw [e, h1, host0_cos, cos_at, m0]
    exact if_congr Iff.rfl (e1 r (Model.pair n.val) 0) rfl
  have s3 (r n) : sinT W3 (ix2 r n) = if Model.Turned n.val then (if n.val % 2 = 0 then -co r (Model.pair n.val) 1 else co r (Model.pair n.val) 1) else 0 := by
    have e : sinT W3 = sinT W1 := (a3 main_v27 (by decide)).trans (a2 main_v27 (by decide))
    rw [e, h1, host0_sin, sin_at, m0]
    exact if_congr Iff.rfl (if_congr Iff.rfl (congrArg (fun y : EReal => -y) (e1 r (Model.pair n.val) 1)) (e1 r (Model.pair n.val) 1)) rfl
  have v31 (r n) : X3 (ix2 r n) = Model.qkv x co w1 wq b r n := by
    refine (val1 c W3 X3 A3 r n).trans ?_
    have e : (fun k => norm1 W3 (ix2 r k)) = Model.rms (x r) w1 := congrFun p3 r
    rw [e, q3, b3, c3, s3]
    exact rope_tables (Model.proj (Model.rms (x r) w1) wq b) (co r) n
  -- the attention
  have v32 (r n) : X4 (ix2 r n) = Model.ctx (Model.qkv x co w1 wq b) r n := by
    have e : turned W4 = X3 := by rw [h4]; exact Function.update_self _ _ _
    refine (val2 c W4 X4 A4 r ⟨n.val / 128, by omega⟩ ⟨n.val % 128, by omega⟩ n (by show n.val = n.val / 128 * 128 + n.val % 128; omega)
      (Model.qkv x co w1 wq b) (fun r n => by rw [e]; exact v31 r n)).trans ?_
    exact Finite.blocks _ (Finite.qkv x co w1 wq b fc fw fq fb) _ r _
  -- the dense product
  have v33 (r n) : X5 (ix2 r n) = Model.dense x (Model.ctx (Model.qkv x co w1 wq b)) wo r n := by
    have eh : hid W5 = hid W1 := (a5 main_v0 (by decide)).trans ((a4 _ (by decide)).trans ((a3 _ (by decide)).trans (a2 _ (by decide))))
    have ec : ctx W5 = X4 := by rw [h5]; exact Function.update_self _ _ _
    have ew : wDense W5 = m ((c.tc : Thread nD τ).loc main_arg5) :=
      (a5 _ (by decide)).trans ((a4 _ (by decide)).trans ((a3 _ (by decide)).trans ((a2 _ (by decide)).trans ((a1 main_arg5 (by decide)).trans (m0 main_arg5)))))
    refine (val3 c W5 X5 A5 r n).trans ?_
    rw [eh, ec, ew]
    exact congrArg₂ (fun a b : EReal => a + b) (hid1 r n) (Finset.sum_congr rfl fun k _ => congrArg₂ (fun a b : EReal => a * b) (v32 r k) (e5 n k))
  -- the second norm
  have v35 (r j) : X7 (ix2 r j) = Model.rms (Model.dense x (Model.ctx (Model.qkv x co w1 wq b)) wo r) w2 j := by
    have ex : xIn W7 = X5 := (a7 main_v33 (by decide)).trans (by rw [h6]; exact Function.update_self _ _ _)
    refine (val4 c W7 X7 A7 r j).trans (congrArg₂ (fun a b => Model.rms a b j) (funext fun k => ?_) (funext fun k => ?_))
    · rw [ex]; exact v33 r k
    · rw [h7, host4_norm]
      exact (congrFun ((a6 _ (by decide)).trans ((a5 _ (by decide)).trans ((a4 _ (by decide)).trans ((a3 _ (by decide)).trans ((a2 _ (by decide)).trans
        ((a1 main_arg6 (by decide)).trans (m0 main_arg6))))))) (ix1 k)).trans (e6 k)
  -- the gated product
  have u8 : W8 (Proc.devRef .tc main_arg7) = m ((c.tc : Thread nD τ).loc main_arg7) :=
    (a8 _ (by decide)).trans ((a7 _ (by decide)).trans ((a6 _ (by decide)).trans ((a5 _ (by decide)).trans ((a4 _ (by decide)).trans ((a3 _ (by decide)).trans ((a2 _ (by decide)).trans
      ((a1 main_arg7 (by decide)).trans (m0 main_arg7))))))))
  have v37 (r : Fin 2048) (q : Fin 13696) : X9 (ix2 r (⟨q.val, by omega⟩ : Fin 13824)) = Model.up (Model.rms (Model.dense x (Model.ctx (Model.qkv x co w1 wq b)) wo r) w2) wu q := by
    have en : norm W9 = X7 := (a9 main_v35 (by decide)).trans (by rw [h8]; exact Function.update_self _ _ _)
    have eu (h : Fin 2) (k) (p : Fin 27392) (hp : p.val = h.val * 13696 + q.val) : wUp W9 (ix3 h q k) = wu p k := by
      rw [h9, host5_up W8 h q k p hp]; exact (congrFun u8 (ix2 p k)).trans (e7 p k)
    refine (val5 c W9 X9 A9 r _ q rfl).trans ?_
    rw [en]
    exact congr (congr (congrArg Model.gated (funext fun k => v35 r k)) (funext fun k => eu 0 k (Model.lo q) (by show q.val = 0 * 13696 + q.val; omega)))
      (funext fun k => eu 1 k (Model.hi q) (by show 13696 + q.val = 1 * 13696 + q.val; omega))
  -- the last product
  have eo : out W11 = X10 := by rw [h11]; exact Function.update_self _ _ _
  have ex : xIn W10 = X5 := (a10 main_v33 (by decide)).trans ((a9 _ (by decide)).trans ((a8 _ (by decide)).trans ((a7 _ (by decide)).trans (by rw [h6]; exact Function.update_self _ _ _))))
  have eg : gate W10 = X9 := by rw [h10]; exact Function.update_self _ _ _
  have ed : wDown W10 = m ((c.tc : Thread nD τ).loc main_arg8) :=
    (a10 _ (by decide)).trans ((a9 _ (by decide)).trans ((a8 _ (by decide)).trans ((a7 _ (by decide)).trans ((a6 _ (by decide)).trans ((a5 _ (by decide)).trans ((a4 _ (by decide)).trans
      ((a3 _ (by decide)).trans ((a2 _ (by decide)).trans ((a1 main_arg8 (by decide)).trans (m0 main_arg8))))))))))
  rw [h12, host7_res, eo]
  refine (val6 c W10 X10 A10 r n).trans ?_
  rw [ex, eg, ed]
  exact congrArg₂ (fun a b : EReal => a + b) (v33 r n) (Finset.sum_congr rfl fun q _ => congrArg₂ (fun a b : EReal => a * b) (v37 r q) (e8 n q))

end Cert.KernelIdeal.Val

end
-- ==== Proof.Ref.lean ====
/- The reference's result, element by element, over the extended reals. -/
module

public import proofs.«01_k».proof.Proof.Model
public import proofs.«01_k».proof.Proof.Gen.ReferenceIdeal.Run
public import Idealize.ShloMosaic.Lib.Pointwise

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem Idealize.ShloMosaic.StableHlo

/-- The reference's projection of the normed rows, … -/
def mixT (x : FVec Ideal S2048x1x4096 .f32) (w : FVec Ideal S4096 .f32) (wq : FVec Ideal S4608x4096 .f32) (b : FVec Ideal S4608 .f32) : FVec Ideal S2048x1x4608 .f32 :=
  addf (Host.dotGeneral dot_S2048x1x4096_S4096x4608_S2048x1x4608_2_0_01_1_n_n none (mulf (broadcastInDim S2048x1x4096 ![0, 1, 2] bcast_S1x1x4096_S2048x1x4096_0_1_2 (broadcastInDim S1x1x4096 ![2] bcast_S4096_S1x1x4096_2 w)) (mulf x (broadcastInDim S2048x1x4096 ![0, 1, 2] bcast_S2048x1x1_S2048x1x4096_0_1_2 (Host.rsqrt (addf (Host.divf (broadcastInDim S2048x1x1 ![0, 1] bcast_S2048x1_S2048x1x1_0_1 (Host.reduceAdd (mulf x x) (constant S_ .f32 0x00000000#32) reducesTo_S2048x1x4096_S2048x1_d2 h_S_)) (broadcastInDim S2048x1x1 ![] bcast_S_S2048x1x1 (constant S_ .f32 0x45800000#32))) (broadcastInDim S2048x1x1 ![] bcast_S_S2048x1x1 (constant S_ .f32 0x3727C5AC#32))))))) (transpose S4096x4608 [1, 0] wq transposes_S4608x4096_S4096x4608_1_0)) (broadcastInDim S2048x1x4608 ![0, 1, 2] bcast_S1x1x4608_S2048x1x4608_0_1_2 (broadcastInDim S1x1x4608 ![2] bcast_S4608_S1x1x4608_2 b))
/-- … its queries, … -/
def qT (y : FVec Ideal S2048x1x4608 .f32) : FVec Ideal S2048x1x32x128 .f32 :=
  shapeCast S2048x1x32x128 (extractStridedSlice S2048x1x4096 ![0, 0, 0] y slices_S2048x1x4608_S2048x1x4096_0_0_0) shapeCasts_S2048x1x4096_S2048x1x32x128
/-- … its keys, … -/
def kT (y : FVec Ideal S2048x1x4608 .f32) : FVec Ideal S2048x1x2x128 .f32 :=
  shapeCast S2048x1x2x128 (extractStridedSlice S2048x1x256 ![0, 0, 4096] y slices_S2048x1x4608_S2048x1x256_0_0_4096) shapeCasts_S2048x1x256_S2048x1x2x128
/-- … its values, … -/
def vT (y : FVec Ideal S2048x1x4608 .f32) : FVec Ideal S2048x1x2x128 .f32 :=
  shapeCast S2048x1x2x128 (extractStridedSlice S2048x1x256 ![0, 0, 4352] y slices_S2048x1x4608_S2048x1x256_0_0_4352) shapeCasts_S2048x1x256_S2048x1x2x128
/-- … the cache of cosines and sines, … -/
def pairs (c : FVec Ideal S2048x32x2 .f32) : FVec Ideal S2048x1x1x32x2 .f32 :=
  shapeCast S2048x1x1x32x2 c shapeCasts_S2048x32x2_S2048x1x1x32x2
/-- … the rotated half of the queries in pairs, … -/
def qPairs (q : FVec Ideal S2048x1x32x128 .f32) : FVec Ideal S2048x1x32x32x2 .f32 :=
  shapeCast S2048x1x32x32x2 (extractStridedSlice S2048x1x32x64 ![0, 0, 0, 0] q slices_S2048x1x32x128_S2048x1x32x64_0_0_0_0) shapeCasts_S2048x1x32x64_S2048x1x32x32x2
/-- … and of the keys, … -/
def kPairs (k : FVec Ideal S2048x1x2x128 .f32) : FVec Ideal S2048x1x2x32x2 .f32 :=
  shapeCast S2048x1x2x32x2 (extractStridedSlice S2048x1x2x64 ![0, 0, 0, 0] k slices_S2048x1x2x128_S2048x1x2x64_0_0_0_0) shapeCasts_S2048x1x2x64_S2048x1x2x32x2
/-- … the rotated queries, … -/
def qRot (q : FVec Ideal S2048x1x32x128 .f32) (c : FVec Ideal S2048x32x2 .f32) : FVec Ideal S2048x1x32x128 .f32 :=
  concatenate S2048x1x32x128 3 [⟨S2048x1x32x64, (shapeCast _ (concatenate S2048x1x32x32x2 4 [⟨S2048x1x32x32x1, (broadcastInDim S2048x1x32x32x1 ![0, 1, 2, 3] bcast_S2048x1x32x32_S2048x1x32x32x1_0_1_2_3 (subf (mulf (shapeCast _ (extractStridedSlice S2048x1x32x32x1 ![0, 0, 0, 0, 0] (qPairs q) slices_S2048x1x32x32x2_S2048x1x32x32x1_0_0_0_0_0) shapeCasts_S2048x1x32x32x1_S2048x1x32x32) (broadcastInDim S2048x1x32x32 ![0, 1, 2, 3] bcast_S2048x1x1x32_S2048x1x32x32_0_1_2_3 (shapeCast _ (extractStridedSlice S2048x1x1x32x1 ![0, 0, 0, 0, 0] (pairs c) slices_S2048x1x1x32x2_S2048x1x1x32x1_0_0_0_0_0) shapeCasts_S2048x1x1x32x1_S2048x1x1x32))) (mulf (shapeCast _ (extractStridedSlice S2048x1x32x32x1 ![0, 0, 0, 0, 1] (qPairs q) slices_S2048x1x32x32x2_S2048x1x32x32x1_0_0_0_0_1) shapeCasts_S2048x1x32x32x1_S2048x1x32x32) (broadcastInDim S2048x1x32x32 ![0, 1, 2, 3] bcast_S2048x1x1x32_S2048x1x32x32_0_1_2_3 (shapeCast _ (extractStridedSlice S2048x1x1x32x1 ![0, 0, 0, 0, 1] (pairs c) slices_S2048x1x1x32x2_S2048x1x1x32x1_0_0_0_0_1) shapeCasts_S2048x1x1x32x1_S2048x1x1x32)))))⟩, ⟨S2048x1x32x32x1, (broadcastInDim S2048x1x32x32x1 ![0, 1, 2, 3] bcast_S2048x1x32x32_S2048x1x32x32x1_0_1_2_3 (addf (mulf (shapeCast _ (extractStridedSlice S2048x1x32x32x1 ![0, 0, 0, 0, 1] (qPairs q) slices_S2048x1x32x32x2_S2048x1x32x32x1_0_0_0_0_1) shapeCasts_S2048x1x32x32x1_S2048x1x32x32) (broadcastInDim S2048x1x32x32 ![0, 1, 2, 3] bcast_S2048x1x1x32_S2048x1x32x32_0_1_2_3 (shapeCast _ (extractStridedSlice S2048x1x1x32x1 ![0, 0, 0, 0, 0] (pairs c) slices_S2048x1x1x32x2_S2048x1x1x32x1_0_0_0_0_0) shapeCasts_S2048x1x1x32x1_S2048x1x1x32))) (mulf (shapeCast _ (extractStridedSlice S2048x1x32x32x1 ![0, 0, 0, 0, 0] (qPairs q) slices_S2048x1x32x32x2_S2048x1x32x32x1_0_0_0_0_0) shapeCasts_S2048x1x32x32x1_S2048x1x32x32) (broadcastInDim S2048x1x32x32 ![0, 1, 2, 3] bcast_S2048x1x1x32_S2048x1x32x32_0_1_2_3 (shapeCast _ (extractStridedSlice S2048x1x1x32x1 ![0, 0, 0, 0, 1] (pairs c) slices_S2048x1x1x32x2_S2048x1x1x32x1_0_0_0_0_1) shapeCasts_S2048x1x1x32x1_S2048x1x1x32)))))⟩] concatenates_S2048x1x32x32x1_S2048x1x32x32x1_S2048x1x32x32x2_d4) shapeCasts_S2048x1x32x32x2_S2048x1x32x64)⟩, ⟨S2048x1x32x64, (extractStridedSlice S2048x1x32x64 ![0, 0, 0, 64] q slices_S2048x1x32x128_S2048x1x32x64_0_0_0_64)⟩] concatenates_S2048x1x32x64_S2048x1x32x64_S2048x1x32x128_d3
/-- … the rotated keys, … -/
def kRot (k : FVec Ideal S2048x1x2x128 .f32) (c : FVec Ideal S2048x32x2 .f32) : FVec Ideal S2048x1x2x128 .f32 :=
  concatenate S2048x1x2x128 3 [⟨S2048x1x2x64, (shapeCast _ (concatenate S2048x1x2x32x2 4 [⟨S2048x1x2x32x1, (broadcastInDim S2048x1x2x32x1 ![0, 1, 2, 3] bcast_S2048x1x2x32_S2048x1x2x32x1_0_1_2_3 (subf (mulf (shapeCast _ (extractStridedSlice S2048x1x2x32x1 ![0, 0, 0, 0, 0] (kPairs k) slices_S2048x1x2x32x2_S2048x1x2x32x1_0_0_0_0_0) shapeCasts_S2048x1x2x32x1_S2048x1x2x32) (broadcastInDim S2048x1x2x32 ![0, 1, 2, 3] bcast_S2048x1x1x32_S2048x1x2x32_0_1_2_3 (shapeCast _ (extractStridedSlice S2048x1x1x32x1 ![0, 0, 0, 0, 0] (pairs c) slices_S2048x1x1x32x2_S2048x1x1x32x1_0_0_0_0_0) shapeCasts_S2048x1x1x32x1_S2048x1x1x32))) (mulf (shapeCast _ (extractStridedSlice S2048x1x2x32x1 ![0, 0, 0, 0, 1] (kPairs k) slices_S2048x1x2x32x2_S2048x1x2x32x1_0_0_0_0_1) shapeCasts_S2048x1x2x32x1_S2048x1x2x32) (broadcastInDim S2048x1x2x32 ![0, 1, 2, 3] bcast_S2048x1x1x32_S2048x1x2x32_0_1_2_3 (shapeCast _ (extractStridedSlice S2048x1x1x32x1 ![0, 0, 0, 0, 1] (pairs c) slices_S2048x1x1x32x2_S2048x1x1x32x1_0_0_0_0_1) shapeCasts_S2048x1x1x32x1_S2048x1x1x32)))))⟩, ⟨S2048x1x2x32x1, (broadcastInDim S2048x1x2x32x1 ![0, 1, 2, 3] bcast_S2048x1x2x32_S2048x1x2x32x1_0_1_2_3 (addf (mulf (shapeCast _ (extractStridedSlice S2048x1x2x32x1 ![0, 0, 0, 0, 1] (kPairs k) slices_S2048x1x2x32x2_S2048x1x2x32x1_0_0_0_0_1) shapeCasts_S2048x1x2x32x1_S2048x1x2x32) (broadcastInDim S2048x1x2x32 ![0, 1, 2, 3] bcast_S2048x1x1x32_S2048x1x2x32_0_1_2_3 (shapeCast _ (extractStridedSlice S2048x1x1x32x1 ![0, 0, 0, 0, 0] (pairs c) slices_S2048x1x1x32x2_S2048x1x1x32x1_0_0_0_0_0) shapeCasts_S2048x1x1x32x1_S2048x1x1x32))) (mulf (shapeCast _ (extractStridedSlice S2048x1x2x32x1 ![0, 0, 0, 0, 0] (kPairs k) slices_S2048x1x2x32x2_S2048x1x2x32x1_0_0_0_0_0) shapeCasts_S2048x1x2x32x1_S2048x1x2x32) (broadcastInDim S2048x1x2x32 ![0, 1, 2, 3] bcast_S2048x1x1x32_S2048x1x2x32_0_1_2_3 (shapeCast _ (extractStridedSlice S2048x1x1x32x1 ![0, 0, 0, 0, 1] (pairs c) slices_S2048x1x1x32x2_S2048x1x1x32x1_0_0_0_0_1) shapeCasts_S2048x1x1x32x1_S2048x1x1x32)))))⟩] concatenates_S2048x1x2x32x1_S2048x1x2x32x1_S2048x1x2x32x2_d4) shapeCasts_S2048x1x2x32x2_S2048x1x2x64)⟩, ⟨S2048x1x2x64, (extractStridedSlice S2048x1x2x64 ![0, 0, 0, 64] k slices_S2048x1x2x128_S2048x1x2x64_0_0_0_64)⟩] concatenates_S2048x1x2x64_S2048x1x2x64_S2048x1x2x128_d3
/-- … the two key or value heads repeated for the query heads, … -/
def heads (k : FVec Ideal S2048x1x2x128 .f32) : FVec Ideal S2048x1x32x128 .f32 :=
  shapeCast S2048x1x32x128 (broadcastInDim S2048x1x2x16x128 ![0, 1, 2, 3, 4] bcast_S2048x1x2x1x128_S2048x1x2x16x128_0_1_2_3_4 (broadcastInDim S2048x1x2x1x128 ![0, 1, 2, 4] bcast_S2048x1x2x128_S2048x1x2x1x128_0_1_2_4 k)) shapeCasts_S2048x1x2x16x128_S2048x1x32x128
/-- … the products of the queries and the keys, … -/
def dotT (q k : FVec Ideal S2048x1x32x128 .f32) : FVec Ideal S1x32x2048x2048 .f32 :=
  Host.dotGeneral dot_S1x32x2048x128_S1x32x2048x128_S1x32x2048x2048_3_3_2_2_01_01 none (transpose S1x32x2048x128 [1, 2, 0, 3] q transposes_S2048x1x32x128_S1x32x2048x128_1_2_0_3) (transpose S1x32x2048x128 [1, 2, 0, 3] k transposes_S2048x1x32x128_S1x32x2048x128_1_2_0_3)
/-- … the masked scores, … -/
def maskT (s : FVec Ideal S1x32x2048x2048 .f32) : FVec Ideal S1x32x2048x2048 .f32 :=
  select (broadcastInDim S1x32x2048x2048 ![2, 3] bcast_S2048x2048_S1x32x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1)))) (mulf s (broadcastInDim S1x32x2048x2048 ![] bcast_S_S1x32x2048x2048 (constant S_ .f32 0x3DB504F3#32))) (broadcastInDim S1x32x2048x2048 ![] bcast_S_S1x32x2048x2048 (id (constant S_ .f32 0xFF800000#32)))
/-- … their maximum, … -/
def maxT (s : FVec Ideal S1x32x2048x2048 .f32) : FVec Ideal S1x32x2048 .f32 :=
  Host.reduce FloatOps.maximumf s (constant S_ .f32 0xFF800000#32) reducesTo_S1x32x2048x2048_S1x32x2048_d3 h_S_
/-- … not below −∞, … -/
def floorT (t : FVec Ideal S1x32x2048 .f32) : FVec Ideal S1x32x2048 .f32 :=
  maximumf (broadcastInDim S1x32x2048 ![] bcast_S_S1x32x2048 (constant S_ .f32 0xFF800000#32)) t
/-- … the exponentials of the scores less a row of numbers, … -/
def lessT (s : FVec Ideal S1x32x2048x2048 .f32) (t : FVec Ideal S1x32x2048 .f32) : FVec Ideal S1x32x2048x2048 .f32 :=
  Host.exp (subf s (broadcastInDim S1x32x2048x2048 ![0, 1, 2, 3] bcast_S1x32x2048x1_S1x32x2048x2048_0_1_2_3 (broadcastInDim S1x32x2048x1 ![0, 1, 2] bcast_S1x32x2048_S1x32x2048x1_0_1_2 t)))
/-- … and less their maximum, … -/
def expT (s : FVec Ideal S1x32x2048x2048 .f32) : FVec Ideal S1x32x2048x2048 .f32 := lessT s (floorT (maxT s))
/-- … the attention's result, … -/
def ctxT (e : FVec Ideal S1x32x2048x2048 .f32) (v : FVec Ideal S2048x1x32x128 .f32) : FVec Ideal S2048x1x4096 .f32 :=
  shapeCast S2048x1x4096 (transpose S2048x1x32x128 [2, 0, 1, 3] (Host.dotGeneral dot_S1x32x2048x2048_S1x32x2048x128_S1x32x2048x128_3_2_2_3_01_01 none (Host.divf e (broadcastInDim S1x32x2048x2048 ![0, 1, 2, 3] bcast_S1x32x2048x1_S1x32x2048x2048_0_1_2_3 (broadcastInDim S1x32x2048x1 ![0, 1, 2] bcast_S1x32x2048_S1x32x2048x1_0_1_2 (Host.reduceAdd e (constant S_ .f32 0x00000000#32) reducesTo_S1x32x2048x2048_S1x32x2048_d3 h_S_)))) (transpose S1x32x2048x128 [1, 2, 0, 3] v transposes_S2048x1x32x128_S1x32x2048x128_1_2_0_3)) transposes_S1x32x2048x128_S2048x1x32x128_2_0_1_3) shapeCasts_S2048x1x32x128_S2048x1x4096
/-- … the residual after it, … -/
def denseT (x a : FVec Ideal S2048x1x4096 .f32) (wo : FVec Ideal S4096x4096 .f32) : FVec Ideal S2048x1x4096 .f32 :=
  addf x (Host.dotGeneral dot_S2048x1x4096_S4096x4096_S2048x1x4096_2_0_01_1_n_n none a (transpose S4096x4096 [1, 0] wo transposes_S4096x4096_S4096x4096_1_0))
/-- … the second norm's first product, … -/
def interT (x : FVec Ideal S2048x1x4096 .f32) (w : FVec Ideal S4096 .f32) (wu : FVec Ideal S27392x4096 .f32) : FVec Ideal S2048x1x27392 .f32 :=
  Host.dotGeneral dot_S2048x1x4096_S4096x27392_S2048x1x27392_2_0_01_1_n_n none (mulf (broadcastInDim S2048x1x4096 ![0, 1, 2] bcast_S1x1x4096_S2048x1x4096_0_1_2 (broadcastInDim S1x1x4096 ![2] bcast_S4096_S1x1x4096_2 w)) (mulf x (broadcastInDim S2048x1x4096 ![0, 1, 2] bcast_S2048x1x1_S2048x1x4096_0_1_2 (Host.rsqrt (addf (Host.divf (broadcastInDim S2048x1x1 ![0, 1] bcast_S2048x1_S2048x1x1_0_1 (Host.reduceAdd (mulf x x) (constant S_ .f32 0x00000000#32) reducesTo_S2048x1x4096_S2048x1_d2 h_S_)) (broadcastInDim S2048x1x1 ![] bcast_S_S2048x1x1 (constant S_ .f32 0x45800000#32))) (broadcastInDim S2048x1x1 ![] bcast_S_S2048x1x1 (constant S_ .f32 0x3727C5AC#32))))))) (transpose S4096x27392 [1, 0] wu transposes_S27392x4096_S4096x27392_1_0)
/-- … its gated product, … -/
def gateT (a : FVec Ideal S2048x1x27392 .f32) : FVec Ideal S2048x1x13696 .f32 :=
  mulf (mulf (extractStridedSlice S2048x1x13696 ![0, 0, 0] a slices_S2048x1x27392_S2048x1x13696_0_0_0) (Host.divf (broadcastInDim S2048x1x13696 ![] bcast_S_S2048x1x13696 (constant S_ .f32 0x3F800000#32)) (addf (broadcastInDim S2048x1x13696 ![] bcast_S_S2048x1x13696 (constant S_ .f32 0x3F800000#32)) (Host.exp (Host.negf (extractStridedSlice S2048x1x13696 ![0, 0, 0] a slices_S2048x1x27392_S2048x1x13696_0_0_0)))))) (extractStridedSlice S2048x1x13696 ![0, 0, 13696] a slices_S2048x1x27392_S2048x1x13696_0_0_13696)
/-- … and its result. -/
def outT (x : FVec Ideal S2048x1x4096 .f32) (g : FVec Ideal S2048x1x13696 .f32) (wd : FVec Ideal S4096x13696 .f32) : FVec Ideal S2048x1x4096 .f32 :=
  addf x (Host.dotGeneral dot_S2048x1x13696_S13696x4096_S2048x1x4096_2_0_01_1_n_n none g (transpose S13696x4096 [1, 0] wd transposes_S4096x13696_S13696x4096_1_0))

theorem mixT_at (x : FVec Ideal S2048x1x4096 .f32) (w : FVec Ideal S4096 .f32) (wq : FVec Ideal S4608x4096 .f32) (b : FVec Ideal S4608 .f32) (r : Fin 2048) (n : Fin 4608) :
    mixT x w wq b (ix3 r 0 n) = Model.proj (Model.rms (fun k => x (ix3 r 0 k)) (fun k => w (ix1 k))) (fun n k => wq (ix2 n k)) (fun n => b (ix1 n)) n := by
  unfold mixT Model.proj Model.rms
  pointwise
  exact congrArg₂ (fun a b : EReal => a + b) (Finset.sum_congr rfl fun k _ => congrArg₂ (fun a b : EReal => a * b) (mul_comm _ _) rfl) rfl
theorem qT_at (y : FVec Ideal S2048x1x4608 .f32) (r : Fin 2048) (h : Fin 32) (d : Fin 128) : qT y (ix4 r 0 h d) = y (ix3 r 0 ⟨h.val * 128 + d.val, by omega⟩) := by
  unfold qT
  pointwise
theorem kT_at (y : FVec Ideal S2048x1x4608 .f32) (r : Fin 2048) (h : Fin 2) (d : Fin 128) : kT y (ix4 r 0 h d) = y (ix3 r 0 ⟨4096 + h.val * 128 + d.val, by omega⟩) := by
  unfold kT
  pointwise
  exact congrArg (fun n => y (ix3 r 0 n)) (Fin.ext (Nat.add_assoc _ _ _).symm)
theorem vT_at (y : FVec Ideal S2048x1x4608 .f32) (r : Fin 2048) (h : Fin 2) (d : Fin 128) : vT y (ix4 r 0 h d) = y (ix3 r 0 ⟨4352 + h.val * 128 + d.val, by omega⟩) := by
  unfold vT
  pointwise
  exact congrArg (fun n => y (ix3 r 0 n)) (Fin.ext (Nat.add_assoc _ _ _).symm)
theorem qRot_at (q : FVec Ideal S2048x1x32x128 .f32) (c : FVec Ideal S2048x32x2 .f32) (r : Fin 2048) (h : Fin 32) (d : Fin 128) :
    qRot q c (ix4 r 0 h d) = if d.val < 64 then (if d.val % 2 = 0 then q (ix4 r 0 h d) * c (ix3 r (Model.pair d.val) 0) - q (ix4 r 0 h ⟨(d.val + 1) % 128, by omega⟩) * c (ix3 r (Model.pair d.val) 1)
      else q (ix4 r 0 h d) * c (ix3 r (Model.pair d.val) 0) + q (ix4 r 0 h ⟨d.val - 1, by omega⟩) * c (ix3 r (Model.pair d.val) 1)) else q (ix4 r 0 h d) := by
  unfold qRot qPairs pairs
  pointwise
  by_cases h64 : d.val < 64
  · refine (dif_pos h64).trans (Eq.trans ?_ (if_pos h64).symm)
    have ep : (⟨d.val / 2, by omega⟩ : Fin 32) = Model.pair d.val := Fin.ext (by show d.val / 2 = d.val % 64 / 2; omega)
    by_cases h2 : d.val % 2 = 0
    · refine (dif_pos (by omega)).trans (Eq.trans ?_ (if_pos h2).symm)
      have e0 : (⟨d.val / 2 * 2, by omega⟩ : Fin 128) = d := Fin.ext (by show d.val / 2 * 2 = d.val; omega)
      have e1 : (⟨d.val / 2 * 2 + 1, by omega⟩ : Fin 128) = ⟨(d.val + 1) % 128, by omega⟩ := Fin.ext (by show d.val / 2 * 2 + 1 = (d.val + 1) % 128; omega)
      exact congrArg₂ (fun a b : EReal => a - b) (congrArg₂ (fun a b : EReal => a * b) (congrArg (fun d => q (ix4 r 0 h d)) e0) (congrArg (fun p => c (ix3 r p 0)) ep))
        (congrArg₂ (fun a b : EReal => a * b) (congrArg (fun d => q (ix4 r 0 h d)) e1) (congrArg (fun p => c (ix3 r p 1)) ep))
    · refine (dif_neg (by omega)).trans (Eq.trans ?_ (if_neg h2).symm)
      have e0 : (⟨d.val / 2 * 2 + 1, by omega⟩ : Fin 128) = d := Fin.ext (by show d.val / 2 * 2 + 1 = d.val; omega)
      have e1 : (⟨d.val / 2 * 2, by omega⟩ : Fin 128) = ⟨d.val - 1, by omega⟩ := Fin.ext (by show d.val / 2 * 2 = d.val - 1; omega)
      exact congrArg₂ (fun a b : EReal => a + b) (congrArg₂ (fun a b : EReal => a * b) (congrArg (fun d => q (ix4 r 0 h d)) e0) (congrArg (fun p => c (ix3 r p 0)) ep))
        (congrArg₂ (fun a b : EReal => a * b) (congrArg (fun d => q (ix4 r 0 h d)) e1) (congrArg (fun p => c (ix3 r p 1)) ep))
  · refine (dif_neg h64).trans (Eq.trans ?_ (if_neg h64).symm)
    exact congrArg (fun d => q (ix4 r 0 h d)) (Fin.ext (by show 64 + (d.val - 64) = d.val; omega))
theorem kRot_at (k : FVec Ideal S2048x1x2x128 .f32) (c : FVec Ideal S2048x32x2 .f32) (r : Fin 2048) (h : Fin 2) (d : Fin 128) :
    kRot k c (ix4 r 0 h d) = if d.val < 64 then (if d.val % 2 = 0 then k (ix4 r 0 h d) * c (ix3 r (Model.pair d.val) 0) - k (ix4 r 0 h ⟨(d.val + 1) % 128, by omega⟩) * c (ix3 r (Model.pair d.val) 1)
      else k (ix4 r 0 h d) * c (ix3 r (Model.pair d.val) 0) + k (ix4 r 0 h ⟨d.val - 1, by omega⟩) * c (ix3 r (Model.pair d.val) 1)) else k (ix4 r 0 h d) := by
  unfold kRot kPairs pairs
  pointwise
  by_cases h64 : d.val < 64
  · refine (dif_pos h64).trans (Eq.trans ?_ (if_pos h64).symm)
    have ep : (⟨d.val / 2, by omega⟩ : Fin 32) = Model.pair d.val := Fin.ext (by show d.val / 2 = d.val % 64 / 2; omega)
    by_cases h2 : d.val % 2 = 0
    · refine (dif_pos (by omega)).trans (Eq.trans ?_ (if_pos h2).symm)
      have e0 : (⟨d.val / 2 * 2, by omega⟩ : Fin 128) = d := Fin.ext (by show d.val / 2 * 2 = d.val; omega)
      have e1 : (⟨d.val / 2 * 2 + 1, by omega⟩ : Fin 128) = ⟨(d.val + 1) % 128, by omega⟩ := Fin.ext (by show d.val / 2 * 2 + 1 = (d.val + 1) % 128; omega)
      exact congrArg₂ (fun a b : EReal => a - b) (congrArg₂ (fun a b : EReal => a * b) (congrArg (fun d => k (ix4 r 0 h d)) e0) (congrArg (fun p => c (ix3 r p 0)) ep))
        (congrArg₂ (fun a b : EReal => a * b) (congrArg (fun d => k (ix4 r 0 h d)) e1) (congrArg (fun p => c (ix3 r p 1)) ep))
    · refine (dif_neg (by omega)).trans (Eq.trans ?_ (if_neg h2).symm)
      have e0 : (⟨d.val / 2 * 2 + 1, by omega⟩ : Fin 128) = d := Fin.ext (by show d.val / 2 * 2 + 1 = d.val; omega)
      have e1 : (⟨d.val / 2 * 2, by omega⟩ : Fin 128) = ⟨d.val - 1, by omega⟩ := Fin.ext (by show d.val / 2 * 2 = d.val - 1; omega)
      exact congrArg₂ (fun a b : EReal => a + b) (congrArg₂ (fun a b : EReal => a * b) (congrArg (fun d => k (ix4 r 0 h d)) e0) (congrArg (fun p => c (ix3 r p 0)) ep))
        (congrArg₂ (fun a b : EReal => a * b) (congrArg (fun d => k (ix4 r 0 h d)) e1) (congrArg (fun p => c (ix3 r p 1)) ep))
  · refine (dif_neg h64).trans (Eq.trans ?_ (if_neg h64).symm)
    exact congrArg (fun d => k (ix4 r 0 h d)) (Fin.ext (by show 64 + (d.val - 64) = d.val; omega))
theorem heads_at (k : FVec Ideal S2048x1x2x128 .f32) (r : Fin 2048) (h : Fin 32) (d : Fin 128) : heads k (ix4 r 0 h d) = k (ix4 r 0 ⟨h.val / 16, by omega⟩ d) := by
  unfold heads
  pointwise
theorem dotT_at (q k : FVec Ideal S2048x1x32x128 .f32) (h : Fin 32) (r s : Fin 2048) : dotT q k (ix4 0 h r s) = ∑ d, q (ix4 r 0 h d) * k (ix4 s 0 h d) := by
  unfold dotT
  pointwise
/-- A selection by a flag that a selection makes. -/
theorem select_flag {α : Type} (b : Bool) (x y : α) : Scalar.select (Scalar.select (BitVec.ofBool b) (1#1 : BitVec 1) 0#1) x y = if b = true then x else y := by
  cases b <;> rfl
theorem maskT_at (a : FVec Ideal S1x32x2048x2048 .f32) (h : Fin 32) (r s : Fin 2048) : maskT a (ix4 0 h r s) = if s.val ≤ r.val then a (ix4 0 h r s) * Ideal.ofBits .f32 0x3DB504F3#32 else ⊥ := by
  unfold maskT
  pointwise
  have e : IntOp.cmpi .sge (IntOp.addi (BitVec.ofNat 32 r.val) 0#32) (BitVec.ofNat 32 s.val) = BitVec.ofBool ((BitVec.ofNat 32 s.val).sle (BitVec.ofNat 32 r.val + 0#32)) := rfl
  rw [e]
  refine (select_flag _ _ _).trans (if_congr ?_ rfl Softmax.neg_inf)
  rw [BitVec.add_zero, BitVec.sle_iff_toInt_le, BitVec.toInt_eq_toNat_of_lt (by simp only [BitVec.toNat_ofNat]; omega), BitVec.toInt_eq_toNat_of_lt (by simp only [BitVec.toNat_ofNat]; omega)]
  simp only [BitVec.toNat_ofNat]
  omega
theorem maxT_at (a : FVec Ideal S1x32x2048x2048 .f32) (h : Fin 32) (r : Fin 2048) : maxT a (ix3 0 h r) = Finset.univ.fold max (Ideal.ofBits .f32 0xFF800000#32) fun s => a (ix4 0 h r s) := by
  unfold maxT
  pointwise
theorem floorT_at (t : FVec Ideal S1x32x2048 .f32) (h : Fin 32) (r : Fin 2048) : floorT t (ix3 0 h r) = max (Ideal.ofBits .f32 0xFF800000#32) (t (ix3 0 h r)) := by
  unfold floorT
  pointwise
theorem lessT_at (a : FVec Ideal S1x32x2048x2048 .f32) (t : FVec Ideal S1x32x2048 .f32) (h : Fin 32) (r s : Fin 2048) : lessT a t (ix4 0 h r s) = Ideal.exp (a (ix4 0 h r s) - t (ix3 0 h r)) := by
  unfold lessT
  pointwise
theorem expT_at (a : FVec Ideal S1x32x2048x2048 .f32) (h : Fin 32) (r s : Fin 2048) : expT a (ix4 0 h r s) = Ideal.exp (a (ix4 0 h r s) - Finset.univ.sup fun s => a (ix4 0 h r s)) := by
  unfold expT
  rw [lessT_at, floorT_at, maxT_at, Softmax.fold_max, Softmax.neg_inf, max_eq_right bot_le]
theorem ctxT_at (e : FVec Ideal S1x32x2048x2048 .f32) (v : FVec Ideal S2048x1x32x128 .f32) (r : Fin 2048) (n : Fin 4096) :
    ctxT e v (ix3 r 0 n) = ∑ s, Ideal.div (e (ix4 0 ⟨n.val / 128, by omega⟩ r s)) (∑ j, e (ix4 0 ⟨n.val / 128, by omega⟩ r j)) * v (ix4 s 0 ⟨n.val / 128, by omega⟩ ⟨n.val % 128, by omega⟩) := by
  unfold ctxT
  pointwise
theorem denseT_at (x a : FVec Ideal S2048x1x4096 .f32) (wo : FVec Ideal S4096x4096 .f32) (r : Fin 2048) (n : Fin 4096) :
    denseT x a wo (ix3 r 0 n) = x (ix3 r 0 n) + ∑ k, a (ix3 r 0 k) * wo (ix2 n k) := by
  unfold denseT
  pointwise
theorem interT_at (x : FVec Ideal S2048x1x4096 .f32) (w : FVec Ideal S4096 .f32) (wu : FVec Ideal S27392x4096 .f32) (r : Fin 2048) (q : Fin 27392) :
    interT x w wu (ix3 r 0 q) = ∑ k, Model.rms (fun k => x (ix3 r 0 k)) (fun k => w (ix1 k)) k * wu (ix2 q k) := by
  unfold interT Model.rms
  pointwise
  exact Finset.sum_congr rfl fun k _ => congrArg₂ (fun a b : EReal => a * b) (mul_comm _ _) rfl
theorem gateT_at (a : FVec Ideal S2048x1x27392 .f32) (r : Fin 2048) (q : Fin 13696) :
    gateT a (ix3 r 0 q) = a (ix3 r 0 (Model.lo q)) * Ideal.logistic (a (ix3 r 0 (Model.lo q))) * a (ix3 r 0 (Model.hi q)) := by
  unfold gateT Ideal.logistic
  pointwise
  rfl
theorem outT_at (x : FVec Ideal S2048x1x4096 .f32) (g : FVec Ideal S2048x1x13696 .f32) (wd : FVec Ideal S4096x13696 .f32) (r : Fin 2048) (n : Fin 4096) :
    outT x g wd (ix3 r 0 n) = x (ix3 r 0 n) + ∑ q, g (ix3 r 0 q) * wd (ix2 n q) := by
  unfold outT
  pointwise

/-- The rotated queries are the rotated projection's columns. -/
theorem qRope_at (y : FVec Ideal S2048x1x4608 .f32) (c : FVec Ideal S2048x32x2 .f32) (r : Fin 2048) (h : Fin 32) (d : Fin 128) (n : Fin 4608) (hn : n.val = h.val * 128 + d.val) :
    qRot (qT y) c (ix4 r 0 h d) = Model.rope (fun n => y (ix3 r 0 n)) (fun p e => c (ix3 r p e)) n := by
  have at' (d' : Fin 128) (n' : Fin 4608) (hn' : n'.val = h.val * 128 + d'.val) : qT y (ix4 r 0 h d') = y (ix3 r 0 n') :=
    (qT_at y r h d').trans (congrArg (fun n => y (ix3 r 0 n)) (Fin.ext hn'.symm))
  rw [qRot_at]
  unfold Model.rope
  have ep : Model.pair d.val = Model.pair n.val := Fin.ext (by show d.val % 64 / 2 = n.val % 64 / 2; omega)
  by_cases h64 : d.val < 64
  · have hT : Model.Turned n.val := ⟨by omega, by omega⟩
    rw [if_pos h64, if_pos hT]
    by_cases h2 : d.val % 2 = 0
    · have hs : (Model.swap n).val = h.val * 128 + (d.val + 1) % 128 := by
        have e : Model.swap n = ⟨(n.val + 1) % 4608, by omega⟩ := if_pos (by omega)
        rw [e]; show (n.val + 1) % 4608 = _; omega
      rw [if_pos h2, if_pos (by omega), ep, at' d n hn, at' ⟨(d.val + 1) % 128, by omega⟩ (Model.swap n) hs]
    · have hs : (Model.swap n).val = h.val * 128 + (d.val - 1) := by
        have e : Model.swap n = ⟨n.val - 1, by omega⟩ := if_neg (by omega)
        rw [e]; show n.val - 1 = _; omega
      rw [if_neg h2, if_neg (by omega), ep, at' d n hn, at' ⟨d.val - 1, by omega⟩ (Model.swap n) hs]
  · have hT : ¬Model.Turned n.val := fun q => h64 (by have := q.2; omega)
    rw [if_neg h64, if_neg hT, at' d n hn]

/-- The rotated keys are the rotated projection's columns. -/
theorem kRope_at (y : FVec Ideal S2048x1x4608 .f32) (c : FVec Ideal S2048x32x2 .f32) (r : Fin 2048) (h : Fin 2) (d : Fin 128) (n : Fin 4608) (hn : n.val = 4096 + h.val * 128 + d.val) :
    kRot (kT y) c (ix4 r 0 h d) = Model.rope (fun n => y (ix3 r 0 n)) (fun p e => c (ix3 r p e)) n := by
  have at' (d' : Fin 128) (n' : Fin 4608) (hn' : n'.val = 4096 + h.val * 128 + d'.val) : kT y (ix4 r 0 h d') = y (ix3 r 0 n') :=
    (kT_at y r h d').trans (congrArg (fun n => y (ix3 r 0 n)) (Fin.ext hn'.symm))
  rw [kRot_at]
  unfold Model.rope
  have ep : Model.pair d.val = Model.pair n.val := Fin.ext (by show d.val % 64 / 2 = n.val % 64 / 2; omega)
  by_cases h64 : d.val < 64
  · have hT : Model.Turned n.val := ⟨by omega, by omega⟩
    rw [if_pos h64, if_pos hT]
    by_cases h2 : d.val % 2 = 0
    · have hs : (Model.swap n).val = 4096 + h.val * 128 + (d.val + 1) % 128 := by
        have e : Model.swap n = ⟨(n.val + 1) % 4608, by omega⟩ := if_pos (by omega)
        rw [e]; show (n.val + 1) % 4608 = _; omega
      rw [if_pos h2, if_pos (by omega), ep, at' d n hn, at' ⟨(d.val + 1) % 128, by omega⟩ (Model.swap n) hs]
    · have hs : (Model.swap n).val = 4096 + h.val * 128 + (d.val - 1) := by
        have e : Model.swap n = ⟨n.val - 1, by omega⟩ := if_neg (by omega)
        rw [e]; show n.val - 1 = _; omega
      rw [if_neg h2, if_neg (by omega), ep, at' d n hn, at' ⟨d.val - 1, by omega⟩ (Model.swap n) hs]
  · have hT : ¬Model.Turned n.val := fun q => h64 (by have := q.2; omega)
    rw [if_neg h64, if_neg hT, at' d n hn]

/-- The attention's result is the model's. -/
theorem attn_at (y : FVec Ideal S2048x1x4608 .f32) (c : FVec Ideal S2048x32x2 .f32) (z : Fin 2048 → Fin 4608 → EReal)
    (hz : ∀ r n, Model.rope (fun n => y (ix3 r 0 n)) (fun p e => c (ix3 r p e)) n = z r n) (r : Fin 2048) (n : Fin 4096) :
    ctxT (expT (maskT (dotT (qRot (qT y) c) (heads (kRot (kT y) c))))) (heads (vT y)) (ix3 r 0 n) = Model.ctx z r n := by
  have hq (r h d) : qRot (qT y) c (ix4 r 0 h d) = z r (Model.qcol h d) := (qRope_at y c r h d (Model.qcol h d) rfl).trans (hz r _)
  have hk (s) (h : Fin 32) (d) : heads (kRot (kT y) c) (ix4 s 0 h d) = z s (Model.kcol h d) :=
    (heads_at _ s h d).trans ((kRope_at y c s ⟨h.val / 16, by omega⟩ d (Model.kcol h d) rfl).trans (hz s _))
  have hv (s) (h : Fin 32) (d) : heads (vT y) (ix4 s 0 h d) = z s (Model.vcol h d) :=
    (heads_at _ s h d).trans ((vT_at y s ⟨h.val / 16, by omega⟩ d).trans (Eq.trans
      (if_neg fun q => absurd q.1 (by show ¬4352 + h.val / 16 * 128 + d.val < 4352; omega)).symm (hz s (Model.vcol h d))))
  have hs (h r s) : maskT (dotT (qRot (qT y) c) (heads (kRot (kT y) c))) (ix4 0 h r s) = Model.score z h r s := by
    rw [maskT_at, dotT_at]
    simp only [hq, hk]
    rfl
  rw [ctxT_at]
  simp only [expT_at, hs, hv]
  rfl

/-- The reference's result of its arguments is the layer's formula. -/
theorem whole_at (x : FVec Ideal S2048x1x4096 .f32) (c : FVec Ideal S2048x32x2 .f32) (w1 : FVec Ideal S4096 .f32) (wq : FVec Ideal S4608x4096 .f32) (b : FVec Ideal S4608 .f32)
    (wo : FVec Ideal S4096x4096 .f32) (w2 : FVec Ideal S4096 .f32) (wu : FVec Ideal S27392x4096 .f32) (wd : FVec Ideal S4096x13696 .f32) (y : FVec Ideal S2048x1x4608 .f32)
    (a d : FVec Ideal S2048x1x4096 .f32) (hy : y = mixT x w1 wq b) (ha : a = ctxT (expT (maskT (dotT (qRot (qT y) c) (heads (kRot (kT y) c))))) (heads (vT y))) (hd : d = denseT x a wo)
    (r : Fin 2048) (n : Fin 4096) :
    outT d (gateT (interT d w2 wu)) wd (ix3 r 0 n)
      = Model.layer (fun r k => x (ix3 r 0 k)) (fun r p e => c (ix3 r p e)) (fun k => w1 (ix1 k)) (fun n k => wq (ix2 n k)) (fun n => b (ix1 n))
          (fun n k => wo (ix2 n k)) (fun k => w2 (ix1 k)) (fun n k => wu (ix2 n k)) (fun n q => wd (ix2 n q)) r n := by
  have hz (r : Fin 2048) (n : Fin 4608) : Model.rope (fun n => y (ix3 r 0 n)) (fun p e => c (ix3 r p e)) n
      = Model.qkv (fun r k => x (ix3 r 0 k)) (fun r p e => c (ix3 r p e)) (fun k => w1 (ix1 k)) (fun n k => wq (ix2 n k)) (fun n => b (ix1 n)) r n := by
    unfold Model.qkv
    exact congrArg (fun y => Model.rope y (fun p e => c (ix3 r p e)) n) (funext fun n => by rw [hy]; exact mixT_at x w1 wq b r n)
  have hA (r : Fin 2048) (k : Fin 4096) := (congrFun ha (ix3 r 0 k)).trans (attn_at y c _ hz r k)
  have hD (r : Fin 2048) (k : Fin 4096) : d (ix3 r 0 k) = Model.dense (fun r k => x (ix3 r 0 k)) (Model.ctx (Model.qkv (fun r k => x (ix3 r 0 k)) (fun r p e => c (ix3 r p e)) (fun k => w1 (ix1 k)) (fun n k => wq (ix2 n k)) (fun n => b (ix1 n))))
      (fun n k => wo (ix2 n k)) r k := by
    rw [hd, denseT_at]
    simp only [hA]
    rfl
  rw [outT_at]
  simp only [gateT_at, interT_at, hD]
  rfl

/-- The layer of the arrays a memory holds. -/
def value (m : (ℓ : Loc nD τ sig) → Buf (Elt Ideal) ℓ) (c : Dev nD) (r : Fin 2048) (n : Fin 4096) : EReal :=
  Model.layer (fun r k => (m ((c.tc : Thread nD τ).loc main_arg0) : Vec Ideal S2048x1x4096 .f32) (ix3 r 0 k))
    (fun r p e => (m ((c.tc : Thread nD τ).loc main_arg1) : Vec Ideal S2048x32x2 .f32) (ix3 r p e))
    (fun k => (m ((c.tc : Thread nD τ).loc main_arg2) : Vec Ideal S4096 .f32) (ix1 k))
    (fun n k => (m ((c.tc : Thread nD τ).loc main_arg3) : Vec Ideal S4608x4096 .f32) (ix2 n k))
    (fun n => (m ((c.tc : Thread nD τ).loc main_arg4) : Vec Ideal S4608 .f32) (ix1 n))
    (fun n k => (m ((c.tc : Thread nD τ).loc main_arg5) : Vec Ideal S4096x4096 .f32) (ix2 n k))
    (fun k => (m ((c.tc : Thread nD τ).loc main_arg6) : Vec Ideal S4096 .f32) (ix1 k))
    (fun n k => (m ((c.tc : Thread nD τ).loc main_arg7) : Vec Ideal S27392x4096 .f32) (ix2 n k))
    (fun n q => (m ((c.tc : Thread nD τ).loc main_arg8) : Vec Ideal S4096x13696 .f32) (ix2 n q)) r n

/-- The reference ends with its result at the layer's formula and its arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      (∀ p n, (r.2.mem ((c.tc : Thread nD τ).loc main_v147) : Vec Ideal S2048x1x4096 .f32) (ix3 p 0 n) = value m c p n)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨fun p n => ?_, (h c).2⟩) (Value.run (F := Ideal) m g)
  exact (congrFun (h c).1 (ix3 p 0 n)).trans (whole_at _ _ _ _ _ _ _ _ _ (Value.res_main_v17 (launchContents m c)) _ (Value.res_main_v125 (launchContents m c)) rfl rfl rfl p n)

/-- The reference is quiescent: it ends with its arguments unchanged and no counter moved. -/
theorem frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => (h c).2, sem_eq_zero_of_no_sems (by decide) r.2⟩) (Value.run (F := Ideal) m g)

end Cert.ReferenceIdeal.Ref

end
-- ==== Proof.lean ====
/- The proof of the certificate: the frames of the kernel, of its idealization and of the reference; the kernel's mask is the named one; the kernel's result and the reference's are the same formula of the arguments. -/
module

public import proofs.«01_k».proof.Defs
public import proofs.«01_k».proof.Proof.KernelWhole
public import proofs.«01_k».proof.Proof.KernelIdealEnd
public import proofs.«01_k».proof.Proof.Ref

@[expose] public section

noncomputable section

namespace Cert.Proof

open Idealize.ShloMosaic Idealize.ShloMosaic.TcCoe Idealize.SL.Sem

/-- The precondition's side conditions. -/
theorem facts_pre : Cert.Pre_finite.Facts := ⟨by decide, by decide, by decide, by decide, by decide, by decide⟩

/-- The rows of the projection's weights that make q and k, entry by entry, … -/
theorem slice_w (x : Vec Ideal Cert.Pre_finite.S4608x4096 .f32) (h : Cert.Pre_finite.S4608x4096.Slices ![0, 0] Cert.Pre_finite.S4352x4096) (n : Fin 4608) (hn : n.val < 4352) (k : Fin 4096) :
    extractStridedSlice Cert.Pre_finite.S4352x4096 ![0, 0] x h (ix2 ⟨n.val, hn⟩ k) = x (ix2 n k) :=
  congrArg x (funext fun a => by fin_cases a <;> exact Fin.ext (Nat.zero_add _))
/-- … and the entries of its bias. -/
theorem slice_b (x : Vec Ideal Cert.Pre_finite.S4608 .f32) (h : Cert.Pre_finite.S4608.Slices ![0] Cert.Pre_finite.S4352) (n : Fin 4608) (hn : n.val < 4352) :
    extractStridedSlice Cert.Pre_finite.S4352 ![0] x h (ix1 ⟨n.val, hn⟩) = x (ix1 n) :=
  congrArg x (funext fun a => by fin_cases a; exact Fin.ext (Nat.zero_add _))

/-- The kernel ends quiescent with its arguments unchanged. -/
theorem frame_kernel : Cert.quiescent_Kernel := fun m g _ => Cert.Kernel.Whole.frame m g
/-- So does its idealization, … -/
theorem frame_ideal : Cert.quiescent_KernelIdeal := fun m g _ => Cert.KernelIdeal.Whole.frame m g
/-- … in particular under the precondition. -/
theorem frame_ideal_finite : Cert.quiescent_KernelIdeal_pre_finite (hPre_finite := facts_pre) := fun m g _ => Cert.KernelIdeal.Whole.frame m g
/-- So does the reference, … -/
theorem frame_reference : Cert.quiescent_ReferenceIdeal := fun m g _ => Cert.ReferenceIdeal.Ref.frame m g
/-- … in particular under the precondition. -/
theorem frame_reference_finite : Cert.quiescent_ReferenceIdeal_pre_finite (hPre_finite := facts_pre) := fun m g _ => Cert.ReferenceIdeal.Ref.frame m g

/-- The mask's constant is the named one. -/
theorem mask : Cert.preserves_Kernel_KernelIdeal := IdealRules.named_const.statement Cert.KernelIdeal.κ "mask" .f32 0xF149F2CA#32 ⊥ rfl

set_option maxHeartbeats 4000000 in
/-- The kernel and the reference end with the same result. -/
theorem equal : Cert.algebraic_KernelIdeal_ReferenceIdeal_pre_finite (hPre_finite := facts_pre) := by
  intro m g m' g' hpre hagree
  refine ⟨fun c => (fun i => Cert.ReferenceIdeal.Ref.value m' c (i 0) (i 2) : Vec Ideal Cert.KernelIdeal.S2048x1x4096 .f32), ?_, ?_⟩
  · refine (θ_run Cert.KernelIdeal.defs _ _).mono ?_ (Cert.KernelIdeal.Whole.runs m g)
    rintro r ⟨h, -⟩ c
    obtain ⟨W, hW, hb⟩ := h c
    have k (r' : Ref Cert.KernelIdeal.sig .tc) (hu : Proc.devRef .tc r' ∈ Pipeline.ucRefs Cert.KernelIdeal.τ Cert.KernelIdeal.sig) (hr : r' ∉ Cert.KernelIdeal.Whole.written) :
        r.2.mem ((c.tc : Thread Cert.KernelIdeal.nD Cert.KernelIdeal.τ).loc r') = m ((c.tc : Thread Cert.KernelIdeal.nD Cert.KernelIdeal.τ).loc r') :=
      (hb _ hu).trans (Cert.KernelIdeal.Whole.kept m c W hW r' hr)
    refine ⟨?_, k _ (Finset.mem_filter.mpr ⟨StableHlo.devRef_mem_tcRefs Cert.KernelIdeal.main_arg0, by decide⟩) (by decide),
      k _ (Finset.mem_filter.mpr ⟨StableHlo.devRef_mem_tcRefs Cert.KernelIdeal.main_arg1, by decide⟩) (by decide),
      k _ (Finset.mem_filter.mpr ⟨StableHlo.devRef_mem_tcRefs Cert.KernelIdeal.main_arg2, by decide⟩) (by decide),
      k _ (Finset.mem_filter.mpr ⟨StableHlo.devRef_mem_tcRefs Cert.KernelIdeal.main_arg3, by decide⟩) (by decide),
      k _ (Finset.mem_filter.mpr ⟨StableHlo.devRef_mem_tcRefs Cert.KernelIdeal.main_arg4, by decide⟩) (by decide),
      k _ (Finset.mem_filter.mpr ⟨StableHlo.devRef_mem_tcRefs Cert.KernelIdeal.main_arg5, by decide⟩) (by decide),
      k _ (Finset.mem_filter.mpr ⟨StableHlo.devRef_mem_tcRefs Cert.KernelIdeal.main_arg6, by decide⟩) (by decide),
      k _ (Finset.mem_filter.mpr ⟨StableHlo.devRef_mem_tcRefs Cert.KernelIdeal.main_arg7, by decide⟩) (by decide),
      k _ (Finset.mem_filter.mpr ⟨StableHlo.devRef_mem_tcRefs Cert.KernelIdeal.main_arg8, by decide⟩) (by decide)⟩
    refine (hb _ (Finset.mem_filter.mpr ⟨StableHlo.devRef_mem_tcRefs Cert.KernelIdeal.main_v39, by decide⟩)).trans ?_
    obtain ⟨h0, h1, h2, h3, h4, h5, h6, h7, h8⟩ := hagree c
    obtain ⟨p1, p2, p3, p4⟩ := hpre c
    funext i
    have hi : i = ix3 (i 0) 0 (i 2) := (eq_ix3 i).trans (congrArg (fun q => ix3 (i 0) q (i 2)) (Subsingleton.elim (α := Fin 1) _ _))
    refine (congrArg (W (Proc.devRef .tc Cert.KernelIdeal.main_v39) : Vec Ideal Cert.KernelIdeal.S2048x1x4096 .f32) hi).trans ?_
    refine (Cert.KernelIdeal.Val.ends m c W hW _ _ _ _ _ _ _ _ _ (fun _ _ => rfl) (fun _ _ _ => rfl) (fun _ => rfl) (fun _ _ => rfl) (fun _ => rfl) (fun _ _ => rfl) (fun _ => rfl) (fun _ _ => rfl) (fun _ _ => rfl)
      (fun r p e => Cert.Finite.of_lt (congrFun p1 (ix3 r p e))) (fun k => Cert.Finite.of_lt (congrFun p2 (ix1 k)))
      (fun n hn k => (congrArg Cert.Finite.IsReal (slice_w (m ((c.tc : Thread Cert.KernelIdeal.nD Cert.KernelIdeal.τ).loc Cert.KernelIdeal.main_arg3)) facts_pre.slices_S4608x4096_S4352x4096_0_0 n hn k)).mp <| Cert.Finite.of_lt (congrFun p3 (ix2 ⟨n.val, hn⟩ k)))
      (fun n hn => (congrArg Cert.Finite.IsReal (slice_b (m ((c.tc : Thread Cert.KernelIdeal.nD Cert.KernelIdeal.τ).loc Cert.KernelIdeal.main_arg4)) facts_pre.slices_S4608_S4352_0 n hn)).mp <| Cert.Finite.of_lt (congrFun p4 (ix1 ⟨n.val, hn⟩))) (i 0) (i 2)).trans ?_
    show _ = Cert.ReferenceIdeal.Ref.value m' c (i 0) (i 2)
    unfold Cert.ReferenceIdeal.Ref.value
    rw [h0, h1, h2, h3, h4, h5, h6, h7, h8]
  · refine (θ_run Cert.ReferenceIdeal.defs _ _).mono ?_ (Cert.ReferenceIdeal.Ref.run m' g')
    rintro r h c
    refine ⟨?_, (h c).2⟩
    funext i
    have hi : i = ix3 (i 0) 0 (i 2) := (eq_ix3 i).trans (congrArg (fun q => ix3 (i 0) q (i 2)) (Subsingleton.elim (α := Fin 1) _ _))
    refine (congrArg (r.2.mem ((c.tc : Thread Cert.ReferenceIdeal.nD Cert.ReferenceIdeal.τ).loc Cert.ReferenceIdeal.main_v147) : Vec Ideal Cert.ReferenceIdeal.S2048x1x4096 .f32) hi).trans ?_
    exact (h c).1 (i 0) (i 2)

/-- The certificate. -/
theorem claim : Cert.Claim := ⟨Cert.Kernel.Gen.facts, Cert.KernelIdeal.Gen.facts, Cert.ReferenceIdeal.Gen.facts, facts_pre,
  frame_kernel, frame_ideal, frame_ideal_finite, frame_reference, frame_reference_finite, mask, equal⟩

end Cert.Proof

end
